-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S50000x256 : Shape := ⟨2, ![50000, 256]⟩
abbrev S50000 : Shape := ⟨1, ![50000]⟩
abbrev S256x2 : Shape := ⟨2, ![256, 2]⟩
abbrev S256x256 : Shape := ⟨2, ![256, 256]⟩
abbrev S256 : Shape := ⟨1, ![256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x2 : S_.BroadcastsInDim S256x2 (![] : Fin 0 → Fin S256x2.rank)
  reducesTo_S256x2_S_d0_1 : S256x2.ReducesTo [0, 1] S_

variable [Facts]

def fn {F : FTy → Type} [FloatOps F] (main_arg0 : FVec F S50000x256 .f32) (main_arg1 : IVec S50000 32) (main_arg2 : FVec F S256x2 .f32) (main_arg3 : FVec F S256x256 .f32) (main_arg4 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x2 .f32 := Host.absf main_arg2
  let main_cst_0 : FVec F S_ .f32 := constant S_ .f32 0x7F800000#32
  let main_v5 : FVec F S256x2 .f32 := broadcastInDim S256x2 ![] bcast_S_S256x2 main_cst_0
  let main_v6 : IVec S256x2 1 := cmpf .olt main_v4 main_v5
  let main_c_1 : IVec S_ 1 := constantI S_ 1 1#1
  let main_v7 : IVec S_ 1 := (fun x v => Host.reduce IntOp.andi x v reducesTo_S256x2_S_d0_1 h_S_) main_v6 main_c_1
  let main_v8 : IVec S_ 1 := andi main_v3 main_v7
  main_v8
-- ==== Kernel.lean ====
abbrev S50000x256 : Shape := ⟨2, ![50000, 256]⟩
abbrev S50000 : Shape := ⟨1, ![50000]⟩
abbrev S256x2 : Shape := ⟨2, ![256, 2]⟩
abbrev S256x256 : Shape := ⟨2, ![256, 256]⟩
abbrev S256 : Shape := ⟨1, ![256]⟩
abbrev S_ : Shape := ⟨0, ![]⟩
abbrev S57344x256 : Shape := ⟨2, ![57344, 256]⟩
abbrev S57344 : Shape := ⟨1, ![57344]⟩
abbrev S14x1x4096 : Shape := ⟨3, ![14, 1, 4096]⟩
abbrev S2x256 : Shape := ⟨2, ![2, 256]⟩
abbrev S1x256 : Shape := ⟨2, ![1, 256]⟩
abbrev S4096x256 : Shape := ⟨2, ![4096, 256]⟩
abbrev S1x1x4096 : Shape := ⟨3, ![1, 1, 4096]⟩
abbrev S1x4096 : Shape := ⟨2, ![1, 4096]⟩
abbrev S2x4096 : Shape := ⟨2, ![2, 4096]⟩
abbrev S256x4096 : Shape := ⟨2, ![256, 4096]⟩
abbrev S4096x128 : Shape := ⟨2, ![4096, 128]⟩
abbrev S256x128 : Shape := ⟨2, ![256, 128]⟩
abbrev S256x1 : Shape := ⟨2, ![256, 1]⟩

abbrev nBuf : Space → Nat
  | .hbm => 15
  | .vmem => 15
  | .smem => 0
  | _ => 0

abbrev bufTy : (tb : Table) → Fin (tcTables nBuf tb) → BufTy
  | .hbm, ⟨0, _⟩ => ⟨S50000x256, .f32⟩
  | .hbm, ⟨1, _⟩ => ⟨S50000, .i32⟩
  | .hbm, ⟨2, _⟩ => ⟨S256x2, .f32⟩
  | .hbm, ⟨3, _⟩ => ⟨S256x256, .f32⟩
  | .hbm, ⟨4, _⟩ => ⟨S256, .f32⟩
  | .hbm, ⟨5, _⟩ => ⟨S_, .i32⟩
  | .hbm, ⟨6, _⟩ => ⟨S_, .f32⟩
  | .hbm, ⟨7, _⟩ => ⟨S57344x256, .f32⟩
  | .hbm, ⟨8, _⟩ => ⟨S_, .i32⟩
  | .hbm, ⟨9, _⟩ => ⟨S_, .i32⟩
  | .hbm, ⟨10, _⟩ => ⟨S57344, .i32⟩
  | .hbm, ⟨11, _⟩ => ⟨S14x1x4096, .i32⟩
  | .hbm, ⟨12, _⟩ => ⟨S2x256, .f32⟩
  | .hbm, ⟨13, _⟩ => ⟨S1x256, .f32⟩
  | .hbm, ⟨14, _⟩ => ⟨S256x256, .f32⟩
  | .local _ .vmem, ⟨0, _⟩ => ⟨S4096x256, .f32⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S1x1x4096, .i32⟩
  | .local _ .vmem, ⟨5, _⟩ => ⟨S1x1x4096, .i32⟩
  | .local _ .vmem, ⟨6, _⟩ => ⟨S1x1x4096, .i32⟩
  | .local _ .vmem, ⟨7, _⟩ => ⟨S1x1x4096, .i32⟩
  | .local _ .vmem, ⟨8, _⟩ => ⟨S2x256, .f32⟩
  | .local _ .vmem, ⟨9, _⟩ => ⟨S256x256, .f32⟩
  | .local _ .vmem, ⟨10, _⟩ => ⟨S1x256, .f32⟩
  | .local _ .vmem, ⟨11, _⟩ => ⟨S256x256, .f32⟩
  | .local _ .vmem, ⟨12, _⟩ => ⟨S2x256, .f32⟩
  | .local _ .vmem, ⟨13, _⟩ => ⟨S256x256, .f32⟩
  | .local _ .vmem, ⟨14, _⟩ => ⟨S2x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_c_0 : Ref sig .tc := ⟨.hbm, 8, rfl⟩
abbrev main_call1_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![7], ![false]⟩

def k0_cond2 (i : grid0.Coords) : BitVec 1 :=
  let arg0 : BitVec 32 := BitVec.ofNat 32 (i 0).val
  let c6_i32 : BitVec 32 := 6#32
  let v137 : BitVec 1 := Scalar.cmpi .eq arg0 c6_i32
  let v138 : BitVec 32 := Scalar.extui v137
  let c0_i32_47 : BitVec 32 := 0#32
  let v139 : BitVec 1 := Scalar.cmpi .ne v138 c0_i32_47
  v139

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.addi arg0 c7_i32
  let c0_i32 : BitVec 32 := 0#32
  let c0_i32_0 : BitVec 32 := 0#32
  ![v0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c7_i32 : BitVec 32 := 7#32
  let v0 : BitVec 32 := Scalar.addi arg0 c7_i32
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x4096 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S50000x256 : Shape := ⟨2, ![50000, 256]⟩
abbrev S50000 : Shape := ⟨1, ![50000]⟩
abbrev S256x2 : Shape := ⟨2, ![256, 2]⟩
abbrev S256x256 : Shape := ⟨2, ![256, 256]⟩
abbrev S256 : Shape := ⟨1, ![256]⟩
abbrev S50000x2 : Shape := ⟨2, ![50000, 2]⟩
abbrev S1x50000 : Shape := ⟨2, ![1, 50000]⟩
abbrev S256x1 : Shape := ⟨2, ![256, 1]⟩
abbrev S256x50000 : Shape := ⟨2, ![256, 50000]⟩
abbrev S256x50000x1 : Shape := ⟨3, ![256, 50000, 1]⟩
abbrev S1x50000x2 : Shape := ⟨3, ![1, 50000, 2]⟩
abbrev S_ : Shape := ⟨0, ![]⟩
abbrev S256x50000x2 : Shape := ⟨3, ![256, 50000, 2]⟩
abbrev S50000x1 : Shape := ⟨2, ![50000, 1]⟩
abbrev S50000x2x128 : Shape := ⟨3, ![50000, 2, 128]⟩
abbrev S50000x2x1 : Shape := ⟨3, ![50000, 2, 1]⟩
abbrev S1x256 : Shape := ⟨2, ![1, 256]⟩

abbrev nBuf : Space → Nat
  | .hbm => 61
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S50000, .i32⟩
  | .hbm, ⟨2, _⟩ => ⟨S256x2, .f32⟩
  | .hbm, ⟨3, _⟩ => ⟨S256x256, .f32⟩
  | .hbm, ⟨4, _⟩ => ⟨S256, .f32⟩
  | .hbm, ⟨5, _⟩ => ⟨S50000x2, .f32⟩
  | .hbm, ⟨6, _⟩ => ⟨S1x50000, .i32⟩
  | .hbm, ⟨7, _⟩ => ⟨S256, .i32⟩
  | .hbm, ⟨8, _⟩ => ⟨S256x1, .i32⟩
  | .hbm, ⟨9, _⟩ => ⟨S256x50000, .i32⟩
  | .hbm, ⟨10, _⟩ => ⟨S256x50000, .i32⟩
  | .hbm, ⟨11, _⟩ => ⟨S256x50000, .i1⟩
  | .hbm, ⟨12, _⟩ => ⟨S256x50000x1, .i1⟩
  | .hbm, ⟨13, _⟩ => ⟨S1x50000x2, .f32⟩
  | .hbm, ⟨14, _⟩ => ⟨S_, .f32⟩
  | .hbm, ⟨15, _⟩ => ⟨S_, .f32⟩
  | .hbm, ⟨16, _⟩ => ⟨S256x50000x2, .i1⟩
  | .hbm, ⟨17, _⟩ => ⟨S256x50000x2, .f32⟩
  | .hbm, ⟨18, _⟩ => ⟨S256x50000x2, .f32⟩
  | .hbm, ⟨19, _⟩ => ⟨S256x50000x2, .f32⟩
  | .hbm, ⟨20, _⟩ => ⟨S_, .f32⟩
  | .hbm, ⟨21, _⟩ => ⟨S256x2, .f32⟩
  | .hbm, ⟨22, _⟩ => ⟨S_, .i32⟩
  | .hbm, ⟨23, _⟩ => ⟨S50000, .i32⟩
  | .hbm, ⟨24, _⟩ => ⟨S50000, .i1⟩
  | .hbm, ⟨25, _⟩ => ⟨S_, .i32⟩
  | .hbm, ⟨26, _⟩ => ⟨S50000, .i32⟩
  | .hbm, ⟨27, _⟩ => ⟨S50000, .i32⟩
  | .hbm, ⟨28, _⟩ => ⟨S50000, .i32⟩
  | .hbm, ⟨29, _⟩ => ⟨S50000x1, .i32⟩
  | .hbm, ⟨30, _⟩ => ⟨S50000x2, .f32⟩
  | .hbm, ⟨31, _⟩ => ⟨S50000x2, .f32⟩
  | .hbm, ⟨32, _⟩ => ⟨S50000x2, .f32⟩
  | .hbm, ⟨33, _⟩ => ⟨S_, .f32⟩
  | .hbm, ⟨34, _⟩ => ⟨S256x2, .f32⟩
  | .hbm, ⟨35, _⟩ => ⟨S50000x1, .i32⟩
  | .hbm, ⟨36, _⟩ => ⟨S256x2, .f32⟩
  | .hbm, ⟨37, _⟩ => ⟨S_, .i32⟩
  | .hbm, ⟨38, _⟩ => ⟨S50000, .i32⟩
  | .hbm, ⟨39, _⟩ => ⟨S50000, .i1⟩
  | .hbm, ⟨40, _⟩ => ⟨S_, .i32⟩
  | .hbm, ⟨41, _⟩ => ⟨S50000, .i32⟩
  | .hbm, ⟨42, _⟩ => ⟨S50000, .i32⟩
  | .hbm, ⟨43, _⟩ => ⟨S50000, .i32⟩
  | .hbm, ⟨44, _⟩ => ⟨S50000x1, .i32⟩
  | .hbm, ⟨45, _⟩ => ⟨S50000x2, .f32⟩
  | .hbm, ⟨46, _⟩ => ⟨S50000x2, .f32⟩
  | .hbm, ⟨47, _⟩ => ⟨S50000x2x128, .f32⟩
  | .hbm, ⟨48, _⟩ => ⟨S50000x2x1, .f32⟩
  | .hbm, ⟨49, _⟩ => ⟨S50000x2x128, .f32⟩
  | .hbm, ⟨50, _⟩ => ⟨S50000x2x128, .f32⟩
  | .hbm, ⟨51, _⟩ => ⟨S50000x256, .f32⟩
  | .hbm, ⟨52, _⟩ => ⟨S_, .f32⟩
  | .hbm, ⟨53, _⟩ => ⟨S256x256, .f32⟩
  | .hbm, ⟨54, _⟩ => ⟨S50000x1, .i32⟩
  | .hbm, ⟨55, _⟩ => ⟨S256x256, .f32⟩
  | .hbm, ⟨56, _⟩ => ⟨S256x256, .f32⟩
  | .hbm, ⟨57, _⟩ => ⟨S256x256, .f32⟩
  | .hbm, ⟨58, _⟩ => ⟨S1x256, .f32⟩
  | .hbm, ⟨59, _⟩ => ⟨S256x256, .f32⟩
  | .hbm, ⟨60, _⟩ => ⟨S256x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_3 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩

abbrev nD : Nat := 1
abbrev τ : Topo := Topo.v7x

variable {F : FTy → Type} [FloatOps F]
-- ==== Proof.Step.lean ====
/-
  What one grid point of the kernel does to the three arrays it carries: the running maxima, the
  running denominators and the running numerators. The point's stores are read back once here, as
  functions of the point's blocks and of what the point before left; the first point starts from
  the constants it stores itself. The last point also writes the result.
-/
module

public import proofs.«01_k».proof.Proof.Gen.KernelIdeal.Frame
public import Idealize.ShloMosaic.Lib.Pipeline.ValueKit
public import Idealize.ShloMosaic.Lib.Pipeline.ReadBack
public import Idealize.ShloMosaic.Lib.Pointwise

@[expose] public section

set_option maxRecDepth 16384
-- the run's named terms are large: reading one back walks all of it
set_option maxHeartbeats 2000000

noncomputable section

namespace Cert.KernelIdeal.Step

open Idealize.ShloMosaic Idealize.ShloMosaic.TcCoe Idealize.SL.Sem
open Cert.KernelIdeal Cert.KernelIdeal.Gen

variable {F : FTy → Type} [FloatOps F]

/-- What a point reads: the two blocks of nodes, their segment words, the attention vectors. -/
structure Blocks (F : FTy → Type) where
  /-- The first stream's nodes. -/
  a : Vec F S4096x256 .f32
  /-- The second stream's nodes. -/
  b : Vec F S4096x256 .f32
  /-- The first stream's segment words. -/
  ia : Vec F S1x1x4096 .i32
  /-- The second stream's segment words. -/
  ib : Vec F S1x1x4096 .i32
  /-- The attention vectors, one per row. -/
  at' : Vec F S2x256 .f32

/-- The running maxima after a point. -/
def nMx (B : Blocks F) (mx : Vec F S2x256 .f32) : Vec F S2x256 .f32 :=
  k0_pay16 (k0_pay7 B.b) (k0_pay8 B.at') (k0_pay11 B.a B.at' B.ia) B.ib mx

/-- The factor the carried sums are rescaled by at a point. -/
def nAl (B : Blocks F) (mx : Vec F S2x256 .f32) : Vec F S2x256 .f32 :=
  k0_pay15 (k0_pay7 B.b) (k0_pay8 B.at') (k0_pay11 B.a B.at' B.ia) B.ib mx mx

/-- The new maxima in the form the score subtraction reads them. -/
def nMb (B : Blocks F) (mx : Vec F S2x256 .f32) : Vec F S2x256 .bf16 :=
  k0_pay17 (k0_pay7 B.b) (k0_pay8 B.at') (k0_pay11 B.a B.at' B.ia) B.ib mx

/-- The first stream's exponentials. -/
def nEx (B : Blocks F) (mx : Vec F S2x256 .f32) : Vec F S2x4096 .bf16 :=
  k0_pay18 (k0_pay7 B.b) (k0_pay8 B.at') (k0_pay9 B.a B.at') (k0_pay10 B.ia) (k0_pay11 B.a B.at' B.ia) B.ib mx

/-- The running denominators after a point. -/
def nDen (B : Blocks F) (mx den : Vec F S2x256 .f32) : Vec F S2x256 .f32 :=
  k0_pay25 (k0_pay12 (k0_pay7 B.b) (k0_pay8 B.at')) (k0_pay13 B.ib) (nAl B mx) (nMb B mx)
    (k0_pay19 (k0_pay7 B.b) (k0_pay8 B.at') (k0_pay9 B.a B.at') (k0_pay10 B.ia) (k0_pay11 B.a B.at' B.ia) B.ib mx) den

/-- The first head's half of the running numerators after a point. -/
def nLo (B : Blocks F) (mx : Vec F S2x256 .f32) (lo : Vec F S256x128 .f32) : Vec F S256x128 .f32 :=
  k0_pay28 (k0_pay7 B.b) (k0_pay12 (k0_pay7 B.b) (k0_pay8 B.at')) (k0_pay13 B.ib) (nAl B mx) (nMb B mx)
    (k0_pay20 (k0_pay7 B.b) (k0_pay8 B.at') (k0_pay9 B.a B.at') (k0_pay10 B.ia) (k0_pay11 B.a B.at' B.ia) B.ib mx)
    (k0_pay21 (k0_pay6 B.a)) lo

/-- The second head's half of the running numerators after a point. -/
def nHi (B : Blocks F) (mx : Vec F S2x256 .f32) (hi : Vec F S256x128 .f32) : Vec F S256x128 .f32 :=
  k0_pay1 (k0_pay22 (k0_pay6 B.a) (k0_pay10 B.ia) (nEx B mx))
    (k0_pay24 (k0_pay7 B.b) (k0_pay12 (k0_pay7 B.b) (k0_pay8 B.at')) (k0_pay13 B.ib) (nMb B mx))
    (k0_pay27 (nAl B mx)) hi

/-- The first 128 columns of an array of 256. -/
def lo (num : Vec F S256x256 .f32) : Vec F S256x128 .f32 := fun j =>
  num (ix2 (n0 := 256) (n1 := 256) (j 0) ⟨(j 1).val, lt_trans (show (j 1).val < 128 from (j 1).isLt) (by decide)⟩)

/-- The last 128 columns of an array of 256. -/
def hi (num : Vec F S256x256 .f32) : Vec F S256x128 .f32 := fun j =>
  num (ix2 (n0 := 256) (n1 := 256) (j 0) ⟨128 + (j 1).val, by have := (show (j 1).val < 128 from (j 1).isLt); omega⟩)

/-- The running numerators after a point: each half of the columns belongs to one head. -/
def nNum (B : Blocks F) (mx : Vec F S2x256 .f32) (num : Vec F S256x256 .f32) : Vec F S256x256 .f32 := fun i =>
  if h : (i 1).val < 128 then nLo B mx (lo num) (ix2 (n0 := 256) (n1 := 128) (i 0) ⟨(i 1).val, h⟩)
  else nHi B mx (hi num) (ix2 (n0 := 256) (n1 := 128) (i 0) ⟨(i 1).val - 128, by have := (show (i 1).val < 256 from (i 1).isLt); omega⟩)

/-- The numerators at a column of the first half. -/
theorem nNum_lo (B : Blocks F) (mx : Vec F S2x256 .f32) (num : Vec F S256x256 .f32) (i : S256x256.Idx) (x : S256x128.Idx)
    (h0 : (i 0).val = (x 0).val) (h1 : (i 1).val = (x 1).val) : nLo B mx (lo num) x = nNum B mx num i := by
  have hx : (x 1).val < 128 := (x 1).isLt
  unfold nNum
  rw [dif_pos (by omega)]
  congr 1
  funext a
  match a with
  | ⟨0, _⟩ => exact Fin.ext h0.symm
  | ⟨1, _⟩ => exact Fin.ext h1.symm

/-- The numerators at a column of the second half. -/
theorem nNum_hi (B : Blocks F) (mx : Vec F S2x256 .f32) (num : Vec F S256x256 .f32) (i : S256x256.Idx) (x : S256x128.Idx)
    (h0 : (i 0).val = (x 0).val) (h1 : (i 1).val = 128 + (x 1).val) : nHi B mx (hi num) x = nNum B mx num i := by
  have hx : (x 1).val < 128 := (x 1).isLt
  unfold nNum
  rw [dif_neg (by omega)]
  congr 1
  funext a
  match a with
  | ⟨0, _⟩ => exact Fin.ext h0.symm
  | ⟨1, _⟩ => exact Fin.ext (show (x 1).val = (i 1).val - 128 by omega)

/-- Loading the first 128 columns. -/
theorem ld_lo (num : Vec F S256x256 .f32) (inb) :
    View.ld num (Rect.unit (s := S256x256) ![0, 0] ![256, 128] inb) = lo num := by
  funext j
  refine congrArg num (funext fun a => Fin.ext ?_)
  match a with
  | ⟨0, _⟩ => exact (Rect.idx_unit_val _ _ inb j 0).trans (Nat.zero_add _)
  | ⟨1, _⟩ => exact (Rect.idx_unit_val _ _ inb j 1).trans (Nat.zero_add _)

/-- Loading the last 128 columns. -/
theorem ld_hi (num : Vec F S256x256 .f32) (inb) :
    View.ld num (Rect.unit (s := S256x256) ![0, 128] ![256, 128] inb) = hi num := by
  funext j
  refine congrArg num (funext fun a => Fin.ext ?_)
  match a with
  | ⟨0, _⟩ => exact (Rect.idx_unit_val _ _ inb j 0).trans (Nat.zero_add _)
  | ⟨1, _⟩ => exact Rect.idx_unit_val _ _ inb j 1

/-- The two halves stored one after the other, over anything: the array the two make. -/
theorem canon_num (B : Blocks F) (mx : Vec F S2x256 .f32) (num : Vec F S256x256 .f32) (inb0) (inb1)
    (L : List (View.Piece (Elt F) S256x256 .f32)) :
    View.canon ((⟨Rect.unit (s := S256x256) ![0, 128] ![256, 128] inb1, nHi B mx (hi num)⟩ : View.Piece (Elt F) S256x256 .f32)
      :: (⟨Rect.unit (s := S256x256) ![0, 0] ![256, 128] inb0, nLo B mx (lo num)⟩ : View.Piece (Elt F) S256x256 .f32) :: L) = nNum B mx num := by
  funext i
  have hi1 : (i 1).val < 256 := (i 1).isLt
  by_cases h : (i 1).val < 128
  · rw [View.canon_cons_of_not_mem]
    · have e : i = (Rect.unit (s := S256x256) ![0, 0] ![256, 128] inb0).emb (ix2 (n0 := 256) (n1 := 128) (i 0) ⟨(i 1).val, h⟩) := by
        funext a
        match a with
        | ⟨0, _⟩ => exact Fin.ext ((Rect.idx_unit_val _ _ inb0 (ix2 (n0 := 256) (n1 := 128) (i 0) ⟨(i 1).val, h⟩) 0).trans (Nat.zero_add _)).symm
        | ⟨1, _⟩ => exact Fin.ext ((Rect.idx_unit_val _ _ inb0 (ix2 (n0 := 256) (n1 := 128) (i 0) ⟨(i 1).val, h⟩) 1).trans (Nat.zero_add _)).symm
      conv_lhs => rw [e]
      rw [View.canon_cons_emb]
      exact nNum_lo B mx num i _ rfl rfl
    · intro hm
      rw [Rect.mem_set_unit] at hm
      have := (hm 1).1
      change 128 ≤ (i 1).val at this
      omega
  · have e : i = (Rect.unit (s := S256x256) ![0, 128] ![256, 128] inb1).emb (ix2 (n0 := 256) (n1 := 128) (i 0) ⟨(i 1).val - 128, by omega⟩) := by
      funext a
      match a with
      | ⟨0, _⟩ => exact Fin.ext ((Rect.idx_unit_val _ _ inb1 (ix2 (n0 := 256) (n1 := 128) (i 0) ⟨(i 1).val - 128, by omega⟩) 0).trans (Nat.zero_add _)).symm
      | ⟨1, _⟩ =>
        refine Fin.ext ((Rect.idx_unit_val _ _ inb1 (ix2 (n0 := 256) (n1 := 128) (i 0) ⟨(i 1).val - 128, by omega⟩) 1).trans ?_).symm
        show 128 + ((i 1).val - 128) = (i 1).val
        omega
    conv_lhs => rw [e]
    rw [View.canon_cons_emb]
    exact nNum_hi B mx num i _ rfl (show (i 1).val = 128 + ((i 1).val - 128) by omega)

/-- The two halves stored one after the other and the whole loaded: the array the two make. -/
theorem readCov_num (B : Blocks F) (mx : Vec F S2x256 .f32) (num : Vec F S256x256 .f32) (inb0) (inb1) (inb) :
    (View.whole cc0_scratch1).readCov (Val := Elt F)
      [(⟨Rect.unit (s := S256x256) ![0, 128] ![256, 128] inb1, nHi B mx (hi num)⟩ : View.Piece (Elt F) S256x256 .f32),
      (⟨Rect.unit (s := S256x256) ![0, 0] ![256, 128] inb0, nLo B mx (lo num)⟩ : View.Piece (Elt F) S256x256 .f32)]
      (Rect.unit (s := S256x256) ![0, 0] ![256, 256] inb).toLoadRect = nNum B mx num := by
  rw [View.readCov_eq_canon', canon_num]
  funext j
  refine congrArg (nNum B mx num) (funext fun a => Fin.ext ?_)
  match a with
  | ⟨0, _⟩ => exact (Rect.idx_unit_val _ _ inb j 0).trans (Nat.zero_add _)
  | ⟨1, _⟩ => exact (Rect.idx_unit_val _ _ inb j 1).trans (Nat.zero_add _)

variable (m : (ℓ : Loc nD τ sig) → Buf (Elt F) ℓ)

/-- The blocks the windows hold at a point. -/
def blks (c : Dev nD) (t : Fin cfg0.N) : Blocks F :=
  ⟨iblk m c 0 t, iblk m c 1 t, iblk m c 2 t, iblk m c 3 t, iblk m c 4 t⟩

/-- The first point's maxima, over the constant it stores first. -/
theorem mx_A (c : Dev nD) (t : Fin cfg0.N) (h0 : t.val % 7 = 0) (h1 : ¬t.val % 7 = 6) :
    (outsAt0 m c t.val t.isLt).2.1 = nMx (blks m c t) k0_pay3 := by
  rw [Gen.outsAt0_A m c t h0 h1]
  dsimp only
  frame_out
  rfl

/-- The first point's denominators, over the zeros it stores first. -/
theorem den_A (c : Dev nD) (t : Fin cfg0.N) (h0 : t.val % 7 = 0) (h1 : ¬t.val % 7 = 6) :
    (outsAt0 m c t.val t.isLt).2.2.2 = nDen (blks m c t) k0_pay3 k0_pay5 := by
  rw [Gen.outsAt0_A m c t h0 h1]
  dsimp only
  frame_out
  rfl

/-- The first point's numerators, over the zeros it stores first. -/
theorem num_A (c : Dev nD) (t : Fin cfg0.N) (h0 : t.val % 7 = 0) (h1 : ¬t.val % 7 = 6) :
    (outsAt0 m c t.val t.isLt).2.2.1 = nNum (blks m c t) k0_pay3 k0_pay4 := by
  rw [Gen.outsAt0_A m c t h0 h1]
  dsimp only
  frame_open
  simp (disch := decide) only [↓ View.readCov_skip, ↓ View.readCov_cons_toLoadRect, ↓ View.readCov_fill]
  frame_out
  simp only [ld_lo, ld_hi]
  exact canon_num (blks m c t) k0_pay3 k0_pay4 _ _ _

/-- A middle point's maxima. -/
theorem mx_B (c : Dev nD) (t : Fin cfg0.N) (h0 : ¬t.val % 7 = 0) (h1 : ¬t.val % 7 = 6) :
    (outsAt0 m c t.val t.isLt).2.1 = nMx (blks m c t) (outsAt0 m c (t.val - 1) (by omega)).2.1 := by
  rw [Gen.outsAt0_B m c t h0 h1]
  dsimp only
  frame_out
  simp only [read_unread_whole]
  rfl

/-- A middle point's denominators. -/
theorem den_B (c : Dev nD) (t : Fin cfg0.N) (h0 : ¬t.val % 7 = 0) (h1 : ¬t.val % 7 = 6) :
    (outsAt0 m c t.val t.isLt).2.2.2 = nDen (blks m c t) (outsAt0 m c (t.val - 1) (by omega)).2.1 (outsAt0 m c (t.val - 1) (by omega)).2.2.2 := by
  rw [Gen.outsAt0_B m c t h0 h1]
  dsimp only
  frame_out
  simp only [read_unread_whole]
  rfl

/-- A middle point's numerators. -/
theorem num_B (c : Dev nD) (t : Fin cfg0.N) (h0 : ¬t.val % 7 = 0) (h1 : ¬t.val % 7 = 6) :
    (outsAt0 m c t.val t.isLt).2.2.1 = nNum (blks m c t) (outsAt0 m c (t.val - 1) (by omega)).2.1 (outsAt0 m c (t.val - 1) (by omega)).2.2.1 := by
  rw [Gen.outsAt0_B m c t h0 h1]
  dsimp only
  frame_out
  simp only [read_unread_whole, ld_lo, ld_hi]
  generalize (outsAt0 m c (t.val - 1) _).2.1 = mx
  generalize (outsAt0 m c (t.val - 1) _).2.2.1 = num
  exact canon_num (blks m c t) mx num _ _ []

/-- What the last point writes: the sums it has just completed, divided and sent through the last
    layer. -/
theorem out_C (c : Dev nD) (t : Fin cfg0.N) (h0 : ¬t.val % 7 = 0) (h1 : t.val % 7 = 6) :
    (outsAt0 m c t.val t.isLt).1
      = k0_pay2 k0_pay26 (nDen (blks m c t) (outsAt0 m c (t.val - 1) (by omega)).2.1 (outsAt0 m c (t.val - 1) (by omega)).2.2.2)
          (nNum (blks m c t) (outsAt0 m c (t.val - 1) (by omega)).2.1 (outsAt0 m c (t.val - 1) (by omega)).2.2.1)
          (iblk m c 5 t) (iblk m c 6 t) := by
  rw [Gen.outsAt0_C m c t h0 h1]
  dsimp only
  frame_open
  simp (disch := decide) only [↓ View.readCov_skip, ↓ View.readCov_cons_toLoadRect, ↓ View.readCov_fill]
  frame_out
  simp only [read_unread_whole, ld_lo, ld_hi]
  generalize (outsAt0 m c (t.val - 1) _).2.1 = mx
  generalize (outsAt0 m c (t.val - 1) _).2.2.1 = num
  generalize (outsAt0 m c (t.val - 1) _).2.2.2 = den
  exact congrArg (fun x => k0_pay2 k0_pay26 (nDen (blks m c t) mx den) x (iblk m c 5 t) (iblk m c 6 t))
    (readCov_num (blks m c t) mx num inb_S256x256_S256x128_0_0 inb_S256x256_S256x128_0_128 inb_S256x256_S256x256_0_0)

end Cert.KernelIdeal.Step

end
-- ==== Proof.Words.lean ====
/-
  Small facts on words and constants: a word compared with a segment's number, the two-way choice on
  it, and the numbers the constants denote.
-/
module

public import Idealize.ShloMosaic.Lib.Pointwise
public import Idealize.ShloMosaic.Lib.WordCmp

@[expose] public section

noncomputable section

namespace Cert.Words

open Idealize.ShloMosaic Idealize.ShloMosaic.WordCmp

/-- Choosing on the equality of two words. -/
theorem select_eq_word {α : Type} (a b : BitVec 32) (x y : α) : Scalar.select (IntOp.cmpi .eq a b) x y = if a = b then x else y := by
  rw [cmpi_eq_eq]
  by_cases h : a = b <;> simp [h, Scalar.select]

/-- The number of a segment, as a word read signed, is itself. -/
theorem ofNat_toInt (g : ℕ) (hg : g < 256) : (BitVec.ofNat 32 g).toInt = (g : ℤ) := by
  rw [BitVec.toInt_eq_toNat_of_lt]
  · simp only [BitVec.toNat_ofNat]; omega
  · simp only [BitVec.toNat_ofNat]; omega

/-- A word read signed is a segment's number exactly when it is that number's word. -/
theorem toInt_eq_iff (w : BitVec 32) (g : ℕ) (hg : g < 256) : w.toInt = (g : ℤ) ↔ w = BitVec.ofNat 32 g := by
  rw [← ofNat_toInt g hg]
  exact BitVec.toInt_inj

/-- The least single-precision number is minus infinity. -/
theorem negInf_f32 : Ideal.ofBits .f32 0xFF800000#32 = ⊥ := by
  simp [Ideal.ofBits, Ideal.ieee]

/-- The least half-width number is minus infinity. -/
theorem negInf_bf16 : Ideal.ofBits .bf16 0xFF80#16 = ⊥ := by
  simp [Ideal.ofBits, Ideal.ieee]

/-- Plus infinity. -/
theorem posInf_f32 : Ideal.ofBits .f32 0x7F800000#32 = ⊤ := by
  simp [Ideal.ofBits, Ideal.ieee]

/-- The shift is 1024. -/
theorem shift_f32 : Ideal.ofBits .f32 0x44800000#32 = ((1024 : ℝ) : EReal) := by
  simp [Ideal.ofBits, Ideal.ieee, -EReal.coe_mul]
  norm_num

/-- The first maxima are -1024. -/
theorem neg_shift_f32 : Ideal.ofBits .f32 0xC4800000#32 = ((-1024 : ℝ) : EReal) := by
  simp [Ideal.ofBits, Ideal.ieee, -EReal.coe_mul]
  norm_num

end Cert.Words

end
-- ==== Proof.EMath.lean ====
/-
  Facts on the extended reals: sums of real numbers, the largest of finitely many numbers, and the
  softmax-weighted sum a group of nodes makes, which does not depend on what is subtracted from the
  scores before the exponentials.
-/
module

public import Idealize.ShloMosaic.Lib.Pointwise

@[expose] public section

noncomputable section

namespace Cert.EMath

open Idealize.ShloMosaic

/-- A sum of real numbers, taken in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A choice between a real number and zero. -/
theorem coe_ite (p : Prop) [Decidable p] (x : ℝ) : ((if p then x else 0 : ℝ) : EReal) = if p then (x : EReal) else 0 := by
  split <;> simp

/-- The largest of finitely many numbers is real when none is plus infinity and one is not minus infinity. -/
theorem fold_max_real {ι : Type} (s : Finset ι) (f : ι → EReal) (ht : ∀ i ∈ s, f i < ⊤) (hb : ∃ i ∈ s, ⊥ < f i) :
    ∃ r : ℝ, s.fold max ⊥ f = (r : EReal) := by
  have h1 : s.fold max ⊥ f < ⊤ := (Finset.fold_max_lt _).2 ⟨bot_lt_top, ht⟩
  have h2 : ⊥ < s.fold max ⊥ f := (Finset.lt_fold_max _).2 (Or.inr hb)
  exact ⟨(s.fold max ⊥ f).toReal, (EReal.coe_toReal h1.ne h2.ne').symm⟩

/-- The larger of two real numbers. -/
theorem coe_max (x y : ℝ) : ((max x y : ℝ) : EReal) = max (x : EReal) (y : EReal) := EReal.coe_strictMono.monotone.map_max

/-- The quotient of two real numbers with a divisor that is not zero. -/
theorem div_real (x y : ℝ) (hy : y ≠ 0) : Ideal.div (x : EReal) (y : EReal) = ((x / y : ℝ) : EReal) := by
  rw [Ideal.div_coe hy, ← EReal.coe_mul, mul_one_div]

section Weighted

variable {n : ℕ} (mem : Fin n → Prop) [DecidablePred mem] (s x : Fin n → ℝ)

/-- The softmax-weighted sum of the members' values. -/
def wsum : ℝ := (∑ i, if mem i then x i * Real.exp (s i) else 0) * (∑ i, if mem i then Real.exp (s i) else 0)⁻¹

/-- Subtracting one number from every score changes nothing. -/
theorem wsum_shift (μ : ℝ) :
    (∑ i, if mem i then x i * Real.exp (s i - μ) else 0) * (∑ i, if mem i then Real.exp (s i - μ) else 0)⁻¹ = wsum mem s x := by
  have e1 : (∑ i, if mem i then x i * Real.exp (s i - μ) else 0) = (∑ i, if mem i then x i * Real.exp (s i) else 0) * Real.exp (-μ) := by
    rw [Finset.sum_mul]
    refine Finset.sum_congr rfl fun i _ => ?_
    split
    · rw [sub_eq_add_neg, Real.exp_add, mul_assoc]
    · rw [zero_mul]
  have e2 : (∑ i, if mem i then Real.exp (s i - μ) else 0) = (∑ i, if mem i then Real.exp (s i) else 0) * Real.exp (-μ) := by
    rw [Finset.sum_mul]
    refine Finset.sum_congr rfl fun i _ => ?_
    split
    · rw [sub_eq_add_neg, Real.exp_add]
    · rw [zero_mul]
  rw [e1, e2, mul_inv, wsum]
  have h := (Real.exp_pos (-μ)).ne'
  calc _ = (∑ i, if mem i then x i * Real.exp (s i) else 0) * (∑ i, if mem i then Real.exp (s i) else 0)⁻¹ * (Real.exp (-μ) * (Real.exp (-μ))⁻¹) := by ring
    _ = _ := by rw [mul_inv_cancel₀ h, mul_one]

/-- The weighted sum taken member by member, each value times its own quotient: what is subtracted need only be a real
    number when there is a member. -/
theorem sum_div_eq (mu : EReal) (hm : (∃ i, mem i) → ∃ r : ℝ, mu = (r : EReal)) :
    (∑ i, if mem i then (x i : EReal) * Ideal.div (Ideal.exp ((s i : EReal) - mu)) (∑ j, if mem j then Ideal.exp ((s j : EReal) - mu) else 0) else 0)
      = ((wsum mem s x : ℝ) : EReal) := by
  by_cases hex : ∃ i, mem i
  · obtain ⟨r, rfl⟩ := hm hex
    have hs : (∑ j, if mem j then Ideal.exp ((s j : EReal) - (r : EReal)) else 0)
        = ((∑ j, if mem j then Real.exp (s j - r) else 0 : ℝ) : EReal) := by
      rw [coe_sum]
      refine Finset.sum_congr rfl fun j _ => ?_
      rw [coe_ite, ← EReal.coe_sub, Ideal.exp_coe]
    have hpos : (∑ j, if mem j then Real.exp (s j - r) else 0) ≠ 0 := by
      obtain ⟨i, hi⟩ := hex
      have : 0 < (∑ j, if mem j then Real.exp (s j - r) else 0) := by
        refine Finset.sum_pos' (s := Finset.univ) (f := fun j => if mem j then Real.exp (s j - r) else 0) (fun j _ => ?_)
          ⟨i, Finset.mem_univ _, by simpa only [if_pos hi] using Real.exp_pos _⟩
        split
        · exact (Real.exp_pos _).le
        · exact le_rfl
      exact this.ne'
    rw [hs, ← wsum_shift mem s x r, Finset.sum_mul]
    refine (Finset.sum_congr rfl fun i _ => ?_).trans (coe_sum _ _).symm
    rw [← EReal.coe_sub, Ideal.exp_coe, div_real _ _ hpos, ← EReal.coe_mul, ite_mul, zero_mul, coe_ite, div_eq_mul_inv, mul_assoc]
  · have hno : ∀ i, ¬ mem i := fun i hi => hex ⟨i, hi⟩
    simp [hno, wsum]

end Weighted

end Cert.EMath

end
-- ==== Proof.KStep.lean ====
/-
  What one grid point computes, on real inputs: the running maxima stay real, and the two running
  sums are rescaled to the new maxima and joined by the sums over the point's two blocks of nodes.
-/
module

public import proofs.«01_k».proof.Proof.Step
public import proofs.«01_k».proof.Proof.Words
public import proofs.«01_k».proof.Proof.EMath
public import Idealize.ShloMosaic.Lib.Pointwise

@[expose] public section

set_option maxRecDepth 16384

noncomputable section

namespace Cert.KernelIdeal.KStep

open Idealize.ShloMosaic Idealize.ShloMosaic.TcCoe Idealize.SL.Sem
open Cert.KernelIdeal Cert.KernelIdeal.Gen Cert.KernelIdeal.Step

/-- The blocks hold real numbers: the two streams' states and the attention vectors. -/
structure Holds (B : Blocks Ideal) (xa xb : Fin 4096 → Fin 256 → ℝ) (A : Fin 2 → Fin 256 → ℝ) : Prop where
  /-- The first stream's states. -/
  a : ∀ t d, (B.a (ix2 t d) : Ideal .f32) = ((xa t d : ℝ) : EReal)
  /-- The second stream's states. -/
  b : ∀ t d, (B.b (ix2 t d) : Ideal .f32) = ((xb t d : ℝ) : EReal)
  /-- The attention vectors. -/
  at' : ∀ h d, (B.at' (ix2 h d) : Ideal .f32) = ((A h d : ℝ) : EReal)

/-- The score of a node for a head. -/
def score (A : Fin 2 → Fin 256 → ℝ) (x : Fin 256 → ℝ) (h : Fin 2) : ℝ := ∑ d, A h d * x d

/-- One when the word is the segment's number, else zero. -/
def bit (w : BitVec 32) (g : Fin 256) : ℝ := if w = BitVec.ofNat 32 g.val then 1 else 0

/-- The exponential of a score less the entry of `μ` its word names. -/
def shifted (μ : Fin 256 → ℝ) (w : BitVec 32) (s : ℝ) : ℝ := Real.exp (s - ∑ g, μ g * bit w g)

/-- What the nodes of a block add to a segment's sum of exponentials. -/
def dsum (A : Fin 2 → Fin 256 → ℝ) (x : Fin 4096 → Fin 256 → ℝ) (w : Fin 4096 → BitVec 32) (m : ℝ) (h : Fin 2) (g : Fin 256) : ℝ :=
  ∑ t, if w t = BitVec.ofNat 32 g.val then Real.exp (score A (x t) h - m) else 0

/-- What the nodes of a block add to a segment's weighted sum of a column. -/
def nsum (A : Fin 2 → Fin 256 → ℝ) (x : Fin 4096 → Fin 256 → ℝ) (w : Fin 4096 → BitVec 32) (m : ℝ) (h : Fin 2) (g d : Fin 256) : ℝ :=
  ∑ t, if w t = BitVec.ofNat 32 g.val then x t d * Real.exp (score A (x t) h - m) else 0

/-- Two segments' words agree only when the segments do. -/
theorem word_inj (g k : Fin 256) : BitVec.ofNat 32 g.val = BitVec.ofNat 32 k.val ↔ g = k := by
  constructor
  · intro h
    have h' := congrArg BitVec.toNat h
    simp only [BitVec.toNat_ofNat] at h'
    exact Fin.ext (by omega)
  · rintro rfl
    rfl

/-- A one-hot sum picks the entry its word names. -/
theorem pick (μ : Fin 256 → ℝ) (w : BitVec 32) (g : Fin 256) (hw : w = BitVec.ofNat 32 g.val) : ∑ k, μ k * bit w k = μ g := by
  subst hw
  simp only [bit, word_inj, mul_ite, mul_one, mul_zero]
  simp

/-- The exponential of a node masked to a segment. -/
theorem shifted_bit (μ : Fin 256 → ℝ) (w : BitVec 32) (s : ℝ) (g : Fin 256) :
    shifted μ w s * bit w g = if w = BitVec.ofNat 32 g.val then Real.exp (s - μ g) else 0 := by
  by_cases h : w = BitVec.ofNat 32 g.val
  · rw [shifted, pick μ w g h, bit, if_pos h, if_pos h, mul_one]
  · rw [bit, if_neg h, if_neg h, mul_zero]

/-- A comparison of two words read as a number. -/
theorem hot (a : BitVec 32) (g : Fin 256) :
    (FloatOps.sitofp (F := Ideal) FTy.f32 (BitVec.setWidth 32 (IntOp.cmpi CmpIPredicate.eq (BitVec.ofNat 32 g.val) a)) : EReal)
      = ((bit a g : ℝ) : EReal) := by
  rw [WordCmp.cmpi_eq_eq]
  show ((((BitVec.setWidth 32 (BitVec.ofBool (decide (BitVec.ofNat 32 g.val = a)))).toInt : ℝ)) : EReal) = _
  by_cases h : BitVec.ofNat 32 g.val = a
  · have e : (BitVec.setWidth 32 (BitVec.ofBool true)).toInt = 1 := by decide
    rw [bit, if_pos h.symm, decide_eq_true h, e]
    norm_num
  · have e : (BitVec.setWidth 32 (BitVec.ofBool false)).toInt = 0 := by decide
    rw [bit, if_neg (fun e => h e.symm), decide_eq_false h, e]
    norm_num

/-- The identity matrix. -/
theorem eye_at (g x : Fin 256) : (k0_pay26 (F := Ideal) (ix2 g x) : Ideal .f32) = ((bit (BitVec.ofNat 32 g.val) x : ℝ) : EReal) := by
  pointwise [k0_pay26]
  rw [hot, bit, bit]
  exact congrArg _ (if_congr eq_comm rfl rfl)

/-- Equal summands make equal sums. -/
theorem add_congr {a b c d : EReal} (h : a = b) (h' : c = d) : a + c = b + d := by rw [h, h']

section Point

variable {B : Blocks Ideal} {xa xb : Fin 4096 → Fin 256 → ℝ} {A : Fin 2 → Fin 256 → ℝ}

/-- The words of the first stream. -/
def wa (B : Blocks Ideal) (t : Fin 4096) : BitVec 32 := B.ia (ix3 0 0 t)

/-- The words of the second stream. -/
def wb (B : Blocks Ideal) (t : Fin 4096) : BitVec 32 := B.ib (ix3 0 0 t)

/-- The first stream's scores. -/
theorem pay9_at (H : Holds B xa xb A) (h : Fin 2) (t : Fin 4096) :
    (k0_pay9 B.a B.at' (ix2 h t) : Ideal .f32) = ((score A (xa t) h : ℝ) : EReal) := by
  pointwise [k0_pay9, k0_pay8, k0_pay6]
  rw [score, EMath.coe_sum]
  exact Finset.sum_congr rfl fun d _ => by rw [H.at', H.a, EReal.coe_mul]

/-- The second stream's scores. -/
theorem pay12_at (H : Holds B xa xb A) (h : Fin 2) (t : Fin 4096) :
    (k0_pay12 (k0_pay7 B.b) (k0_pay8 B.at') (ix2 h t) : Ideal .f32) = ((score A (xb t) h : ℝ) : EReal) := by
  pointwise [k0_pay12, k0_pay8, k0_pay7]
  rw [score, EMath.coe_sum]
  exact Finset.sum_congr rfl fun d _ => by rw [H.at', H.b, EReal.coe_mul]

/-- The first stream's membership. -/
theorem pay10_at (B : Blocks Ideal) (g : Fin 256) (t : Fin 4096) : (k0_pay10 (F := Ideal) B.ia (ix2 g t) : Ideal .bf16) = ((bit (wa B t) g : ℝ) : EReal) := by
  pointwise [k0_pay10]
  exact hot _ g

/-- The second stream's membership. -/
theorem pay13_at (B : Blocks Ideal) (g : Fin 256) (t : Fin 4096) : (k0_pay13 (F := Ideal) B.ib (ix2 g t) : Ideal .bf16) = ((bit (wb B t) g : ℝ) : EReal) := by
  pointwise [k0_pay13]
  exact hot _ g

/-- The first stream's states, in the form the second factors read them. -/
theorem pay6_at (a : Vec Ideal S4096x256 .f32) (t : Fin 4096) (d : Fin 256) : (k0_pay6 a (ix2 t d) : Ideal .bf16) = a (ix2 t d) := by
  pointwise [k0_pay6]

/-- The second stream's states, in the form the second factors read them. -/
theorem pay7_at (b : Vec Ideal S4096x256 .f32) (t : Fin 4096) (d : Fin 256) : (k0_pay7 b (ix2 t d) : Ideal .bf16) = b (ix2 t d) := by
  pointwise [k0_pay7]

/-- The largest shifted score of a block, unshifted: a real number. -/
theorem tile_real (p q : Fin 4096 → EReal) (hp : ∀ t, ∃ r : ℝ, p t = (r : EReal)) (hq : ∀ t, ∃ r : ℝ, q t = (r : EReal)) :
    ∃ r : ℝ, (Finset.fold max (Ideal.ofBits FTy.bf16 65408#16) (fun t => p t * (q t + Ideal.ofBits FTy.f32 1149239296#32)) Finset.univ
      - Ideal.ofBits FTy.f32 1149239296#32 : EReal) = (r : EReal) := by
  choose p' hp using hp
  choose q' hq using hq
  have e : ∀ t, p t * (q t + Ideal.ofBits FTy.f32 1149239296#32) = ((p' t * (q' t + 1024) : ℝ) : EReal) := fun t => by
    rw [hp, hq, Words.shift_f32, ← EReal.coe_add, ← EReal.coe_mul]
  obtain ⟨r, hr⟩ := EMath.fold_max_real Finset.univ (fun t => p t * (q t + Ideal.ofBits FTy.f32 1149239296#32))
    (fun t _ => by simp only [e]; exact EReal.coe_lt_top _) ⟨0, Finset.mem_univ _, by simp only [e]; exact EReal.bot_lt_coe _⟩
  refine ⟨r - 1024, ?_⟩
  rw [Words.negInf_bf16, hr, Words.shift_f32, EReal.coe_sub]

/-- The first stream's largest scores are real. -/
theorem pay11_real (H : Holds B xa xb A) (h : Fin 2) (g : Fin 256) :
    ∃ r : ℝ, (k0_pay11 B.a B.at' B.ia (ix2 h g) : Ideal .f32) = (r : EReal) := by
  have e := fun k : Fin 2 => tile_real (fun t => k0_pay10 (F := Ideal) B.ia (ix2 g t)) (fun t => k0_pay9 B.a B.at' (ix2 k t))
    (fun t => ⟨_, pay10_at B g t⟩) (fun t => ⟨_, pay9_at H k t⟩)
  pointwise [k0_pay11]
  by_cases h1 : h.val < 1
  · rw [dif_pos h1]; exact e 0
  · rw [dif_neg h1]; exact e 1

/-- The new maxima, as the other payloads name them. -/
theorem nMx_eq (B : Blocks Ideal) (mx : Vec Ideal S2x256 .f32) (h : Fin 2) (g : Fin 256) :
    (k0_pay14 (k0_pay7 B.b) (k0_pay8 B.at') (k0_pay11 B.a B.at' B.ia) B.ib mx (ix2 h g) : Ideal .f32) = nMx B mx (ix2 h g) := by
  pointwise [nMx, k0_pay16]

/-- The new maxima are real when the old ones are. -/
theorem nMx_real (H : Holds B xa xb A) (mx : Vec Ideal S2x256 .f32) (μ : Fin 2 → Fin 256 → ℝ)
    (hmx : ∀ h g, (mx (ix2 h g) : Ideal .f32) = ((μ h g : ℝ) : EReal)) :
    ∃ μ' : Fin 2 → Fin 256 → ℝ, ∀ h g, (nMx B mx (ix2 h g) : Ideal .f32) = ((μ' h g : ℝ) : EReal) := by
  have key : ∀ h g, ∃ r : ℝ, (nMx B mx (ix2 h g) : Ideal .f32) = (r : EReal) := fun h g => by
    obtain ⟨ra, ha⟩ := pay11_real H h g
    have e := fun k : Fin 2 => tile_real (fun t => k0_pay13 (F := Ideal) B.ib (ix2 g t)) (fun t => k0_pay12 (k0_pay7 B.b) (k0_pay8 B.at') (ix2 k t))
      (fun t => ⟨_, pay13_at B g t⟩) (fun t => ⟨_, pay12_at H k t⟩)
    pointwise [nMx, k0_pay16, k0_pay14]
    rw [hmx, ha]
    by_cases h1 : h.val < 1
    · obtain ⟨rb, hb⟩ := e 0
      rw [dif_pos h1, hb]
      exact ⟨max (μ h g) (max ra rb), by rw [EMath.coe_max, EMath.coe_max]⟩
    · obtain ⟨rb, hb⟩ := e 1
      rw [dif_neg h1, hb]
      exact ⟨max (μ h g) (max ra rb), by rw [EMath.coe_max, EMath.coe_max]⟩
  choose μ' hμ using key
  exact ⟨μ', hμ⟩

variable {mx : Vec Ideal S2x256 .f32} {μ μ' : Fin 2 → Fin 256 → ℝ}

/-- The factor of the carried sums. -/
theorem nAl_at (hmx : ∀ h g, (mx (ix2 h g) : Ideal .f32) = ((μ h g : ℝ) : EReal))
    (hn : ∀ h g, (nMx B mx (ix2 h g) : Ideal .f32) = ((μ' h g : ℝ) : EReal)) (h : Fin 2) (g : Fin 256) :
    (nAl B mx (ix2 h g) : Ideal .f32) = ((Real.exp (μ h g - μ' h g) : ℝ) : EReal) := by
  pointwise [nAl, k0_pay15]
  rw [nMx_eq, hmx, hn, ← EReal.coe_sub, Ideal.exp_coe]

/-- The factor as a column. -/
theorem pay27_at (al : Vec Ideal S2x256 .f32) (α : Fin 2 → Fin 256 → ℝ) (hal : ∀ h g, (al (ix2 h g) : Ideal .f32) = ((α h g : ℝ) : EReal))
    (g : Fin 256) (h : Fin 2) : (k0_pay27 al (ix2 g h) : Ideal .f32) = ((α h g : ℝ) : EReal) := by
  pointwise [k0_pay27]
  rw [← pick (fun k => α h k) (BitVec.ofNat 32 g.val) g rfl, EMath.coe_sum]
  refine Finset.sum_congr rfl fun k _ => ?_
  rw [hal, eye_at, EReal.coe_mul, mul_comm]

/-- The first stream's exponentials. -/
theorem nEx_at (H : Holds B xa xb A) (hn : ∀ h g, (nMx B mx (ix2 h g) : Ideal .f32) = ((μ' h g : ℝ) : EReal)) (h : Fin 2) (t : Fin 4096) :
    (nEx B mx (ix2 h t) : Ideal .bf16) = ((shifted (μ' h) (wa B t) (score A (xa t) h) : ℝ) : EReal) := by
  pointwise [nEx, k0_pay18, k0_pay17]
  have e : (∑ k : Fin 256, k0_pay14 (k0_pay7 B.b) (k0_pay8 B.at') (k0_pay11 B.a B.at' B.ia) B.ib mx (ix2 h k) * k0_pay10 (F := Ideal) B.ia (ix2 k t) : EReal)
      = ((∑ k, μ' h k * bit (wa B t) k : ℝ) : EReal) := by
    rw [EMath.coe_sum]
    exact Finset.sum_congr rfl fun k _ => by rw [nMx_eq, hn, pay10_at, EReal.coe_mul]
  rw [pay9_at H, e, ← EReal.coe_sub, Ideal.exp_coe, shifted]

/-- The second stream's exponentials. -/
theorem pay23_at (H : Holds B xa xb A) (hn : ∀ h g, (nMx B mx (ix2 h g) : Ideal .f32) = ((μ' h g : ℝ) : EReal)) (h : Fin 2) (t : Fin 4096) :
    (k0_pay23 (k0_pay12 (k0_pay7 B.b) (k0_pay8 B.at')) (k0_pay13 B.ib) (nMb B mx) (ix2 h t) : Ideal .bf16)
      = ((shifted (μ' h) (wb B t) (score A (xb t) h) : ℝ) : EReal) := by
  pointwise [k0_pay23, nMb, k0_pay17]
  have e : (∑ k : Fin 256, k0_pay14 (k0_pay7 B.b) (k0_pay8 B.at') (k0_pay11 B.a B.at' B.ia) B.ib mx (ix2 h k) * k0_pay13 (F := Ideal) B.ib (ix2 k t) : EReal)
      = ((∑ k, μ' h k * bit (wb B t) k : ℝ) : EReal) := by
    rw [EMath.coe_sum]
    exact Finset.sum_congr rfl fun k _ => by rw [nMx_eq, hn, pay13_at, EReal.coe_mul]
  rw [pay12_at H, e, ← EReal.coe_sub, Ideal.exp_coe, shifted]

/-- The running denominators after a point. -/
theorem nDen_at (H : Holds B xa xb A) (hmx : ∀ h g, (mx (ix2 h g) : Ideal .f32) = ((μ h g : ℝ) : EReal))
    (hn : ∀ h g, (nMx B mx (ix2 h g) : Ideal .f32) = ((μ' h g : ℝ) : EReal)) {den : Vec Ideal S2x256 .f32} {δ : Fin 2 → Fin 256 → ℝ}
    (hd : ∀ h g, (den (ix2 h g) : Ideal .f32) = ((δ h g : ℝ) : EReal)) (h : Fin 2) (g : Fin 256) :
    (nDen B mx den (ix2 h g) : Ideal .f32)
      = ((δ h g * Real.exp (μ h g - μ' h g) + dsum A xa (wa B) (μ' h g) h g + dsum A xb (wb B) (μ' h g) h g : ℝ) : EReal) := by
  pointwise [nDen, k0_pay25, k0_pay19]
  rw [hd, nAl_at hmx hn, EReal.coe_add, EReal.coe_add, EReal.coe_mul, dsum, dsum, EMath.coe_sum, EMath.coe_sum]
  refine add_congr (add_congr rfl ?_) ?_
  · refine Finset.sum_congr rfl fun t _ => ?_
    rw [← shifted_bit (μ' h), EReal.coe_mul, ← nEx_at H hn, ← pay10_at]
    rfl
  · refine Finset.sum_congr rfl fun t _ => ?_
    rw [← shifted_bit (μ' h), EReal.coe_mul, ← pay23_at H hn, ← pay13_at]

/-- A masked exponential times a state, regrouped. -/
theorem masked_mul (m : Fin 256 → ℝ) (w : BitVec 32) (s x : ℝ) (g : Fin 256) :
    ((if w = BitVec.ofNat 32 g.val then x * Real.exp (s - m g) else 0 : ℝ) : EReal)
      = ((bit w g : ℝ) : EReal) * ((shifted m w s : ℝ) : EReal) * ((x : ℝ) : EReal) := by
  rw [← EReal.coe_mul, ← EReal.coe_mul]
  congr 1
  rw [mul_comm (bit w g), shifted_bit, ite_mul, zero_mul, mul_comm x]

/-- The running numerators after a point. -/
theorem nNum_at (H : Holds B xa xb A) (hmx : ∀ h g, (mx (ix2 h g) : Ideal .f32) = ((μ h g : ℝ) : EReal))
    (hn : ∀ h g, (nMx B mx (ix2 h g) : Ideal .f32) = ((μ' h g : ℝ) : EReal)) {num : Vec Ideal S256x256 .f32} {ν : Fin 256 → Fin 256 → ℝ}
    (hv : ∀ g d, (num (ix2 g d) : Ideal .f32) = ((ν g d : ℝ) : EReal)) (g d : Fin 256) (h : Fin 2) (hh : h.val = d.val / 128) :
    (nNum B mx num (ix2 g d) : Ideal .f32)
      = ((ν g d * Real.exp (μ h g - μ' h g) + nsum A xa (wa B) (μ' h g) h g d + nsum A xb (wb B) (μ' h g) h g d : ℝ) : EReal) := by
  rw [EReal.coe_add, EReal.coe_add, EReal.coe_mul, nsum, nsum, EMath.coe_sum, EMath.coe_sum]
  by_cases hd : d.val < 128
  · obtain rfl : h = 0 := Fin.ext (by rw [hh]; simp; omega)
    rw [← nNum_lo B mx num (ix2 g d) (ix2 (n0 := 256) (n1 := 128) g ⟨d.val, hd⟩) rfl rfl]
    pointwise [nLo, k0_pay28, lo, k0_pay20, k0_pay21]
    rw [hv, pay27_at _ _ (nAl_at hmx hn)]
    refine add_congr (add_congr rfl ?_) ?_
    · refine Finset.sum_congr rfl fun t _ => ?_
      rw [masked_mul (μ' 0), ← nEx_at H hn, ← pay10_at, ← H.a, pay6_at, nEx]
    · refine Finset.sum_congr rfl fun t _ => ?_
      rw [masked_mul (μ' 0), ← pay23_at H hn, ← pay13_at, ← H.b, pay7_at]
  · obtain rfl : h = 1 := Fin.ext (by rw [hh]; have := d.isLt; simp; omega)
    have e : (⟨128 + (d.val - 128), by omega⟩ : Fin 256) = d := Fin.ext (by simp; omega)
    rw [← nNum_hi B mx num (ix2 g d) (ix2 (n0 := 256) (n1 := 128) g ⟨d.val - 128, by omega⟩) rfl (show d.val = 128 + (d.val - 128) by omega)]
    pointwise [nHi, k0_pay1, hi, k0_pay22, k0_pay24]
    simp only [e]
    rw [hv, pay27_at _ _ (nAl_at hmx hn)]
    refine add_congr (add_congr rfl ?_) ?_
    · refine Finset.sum_congr rfl fun t _ => ?_
      rw [masked_mul (μ' 1), ← nEx_at H hn, ← pay10_at, ← H.a, pay6_at]
    · refine Finset.sum_congr rfl fun t _ => ?_
      rw [masked_mul (μ' 1), ← pay23_at H hn, ← pay13_at, ← H.b, pay7_at]

end Point

/-- The result the last point writes: the numerators over the denominators, through the output map. -/
theorem out_at {den : Vec Ideal S2x256 .f32} {δ : Fin 2 → Fin 256 → ℝ} (hd : ∀ h g, (den (ix2 h g) : Ideal .f32) = ((δ h g : ℝ) : EReal))
    (hpos : ∀ h g, 0 ≤ δ h g) {num : Vec Ideal S256x256 .f32} {ν : Fin 256 → Fin 256 → ℝ}
    (hv : ∀ g d, (num (ix2 g d) : Ideal .f32) = ((ν g d : ℝ) : EReal)) (w : Vec Ideal S256x256 .f32) (b : Vec Ideal S1x256 .f32) (g o : Fin 256) :
    (k0_pay2 k0_pay26 den num w b (ix2 g o) : Ideal .f32)
      = ((∑ d : Fin 256, ((ν g d * (δ ⟨d.val / 128, by omega⟩ g)⁻¹ : ℝ) : EReal) * w (ix2 o d)) + b (ix2 0 o) : EReal) := by
  have inv : ∀ k : Fin 2, (∑ x : Fin 256, k0_pay26 (F := Ideal) (ix2 g x) * (if (0 : EReal) < den (ix2 k x) then Ideal.div 1 (den (ix2 k x)) else 0) : EReal)
      = (((δ k g)⁻¹ : ℝ) : EReal) := fun k => by
    rw [← pick (fun x => (δ k x)⁻¹) (BitVec.ofNat 32 g.val) g rfl, EMath.coe_sum]
    refine Finset.sum_congr rfl fun x _ => ?_
    rw [hd, eye_at, EReal.coe_mul, mul_comm]
    congr 1
    rcases (hpos k x).eq_or_lt with h0 | h0
    · rw [← h0, inv_zero]; simp
    · rw [if_pos (by exact_mod_cast h0), ← EReal.coe_one, EMath.div_real _ _ h0.ne', one_div]
  pointwise [k0_pay2]
  rw [inv 0, inv 1]
  congr 1
  refine Finset.sum_congr rfl fun d _ => ?_
  congr 1
  rw [hv, EReal.coe_mul]
  congr 1
  rw [WordCmp.cmpi_slt_ofNat (by have := d.isLt; omega) (by omega)]
  by_cases h : d.val < 128
  · have e : (⟨d.val / 128, by omega⟩ : Fin 2) = 0 := Fin.ext (by simp; omega)
    rw [e, decide_eq_true h]
    rfl
  · have e : (⟨d.val / 128, by omega⟩ : Fin 2) = 1 := Fin.ext (by have := d.isLt; simp; omega)
    rw [e, decide_eq_false h]
    rfl

end Cert.KernelIdeal.KStep

end
-- ==== Proof.Blocks.lean ====
/-
  What each grid point's blocks hold, in terms of the arguments: the nodes of the two streams, zero past
  the last node; their segment words, a word that is no segment's past the last node; the attention
  vectors, transposed; the output map and the bias, whole.
-/
module

public import proofs.«01_k».proof.Proof.Step
public import proofs.«01_k».proof.Proof.Gen.KernelIdeal.Value
public import Idealize.ShloMosaic.Lib.Claim

@[expose] public section

set_option maxRecDepth 16384

noncomputable section

namespace Cert.KernelIdeal.Blocks

open Idealize.ShloMosaic Idealize.ShloMosaic.TcCoe Idealize.SL.Sem
open Cert.KernelIdeal Cert.KernelIdeal.Gen Cert.KernelIdeal.Step

/-- The states of node `p`, zero past the last node. -/
def xP (st : FVec Ideal S50000x256 .f32) (p : ℕ) (d : Fin 256) : EReal := if h : p < 50000 then st (ix2 ⟨p, h⟩ d) else 0

/-- The segment word of node `p`, 256 past the last node. -/
def wP (ids : IVec S50000 32) (p : ℕ) : BitVec 32 := if h : p < 50000 then ids (ix1 ⟨p, h⟩) else 256#32

/-- Which block each window reads at a point. -/
theorem idx : ∀ t : Fin cfg0.N, win0_0.index t (0 : Fin 2) = t.val ∧ win0_0.index t (1 : Fin 2) = 0
    ∧ win0_1.index t (0 : Fin 2) = t.val + 7 ∧ win0_1.index t (1 : Fin 2) = 0
    ∧ win0_2.index t (0 : Fin 3) = t.val ∧ win0_2.index t (1 : Fin 3) = 0 ∧ win0_2.index t (2 : Fin 3) = 0
    ∧ win0_3.index t (0 : Fin 3) = t.val + 7 ∧ win0_3.index t (1 : Fin 3) = 0 ∧ win0_3.index t (2 : Fin 3) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 := by decide

/-- The padded states at an index. -/
theorem pad_states (x : FVec Ideal S50000x256 .f32) (p : Fin 57344) (d : Fin 256) :
    (pad S57344x256 ![0, 0] ![7344, 0] ![0, 0] x (sitofp (F := Ideal) .f32 (constantI S_ 32 0#32)) pads_S50000x256_S57344x256_073440_000 h_S_ (ix2 p d) : Ideal .f32)
      = xP x p.val d := by
  pointwise
  unfold xP
  split
  · rfl
  · show (((0#32 : BitVec 32).toInt : ℝ) : EReal) = 0
    simp

/-- The padded words at an index. -/
theorem pad_words (x : IVec S50000 32) (p : Fin 14) (r : Fin 4096) :
    (shapeCast S14x1x4096 (pad S57344 ![0] ![7344] ![0] x (constantI S_ 32 256#32) pads_S50000_S57344_073440 h_S_) shapeCasts_S57344_S14x1x4096 (ix3 p 0 r) : BitVec 32)
      = wP x (p.val * 4096 + r.val) := by
  pointwise
  rfl

variable (m : (ℓ : Loc nD τ sig) → Buf (Elt Ideal) ℓ) (c : Dev nD) (t : Fin cfg0.N)

/-- The states as the region finds them. -/
theorem V_v0 : V m c main_v0 = (pad S57344x256 ![0, 0] ![7344, 0] ![0, 0] (m ((c.tc : Thread nD τ).loc main_arg0) : FVec Ideal S50000x256 .f32)
    (sitofp (F := Ideal) .f32 (constantI S_ 32 0#32)) pads_S50000x256_S57344x256_073440_000 h_S_ : FVec Ideal S57344x256 .f32) := by
  entry_read
  rfl

/-- The segment words as the region finds them. -/
theorem V_v2 : V m c main_v2 = shapeCast S14x1x4096 (pad S57344 ![0] ![7344] ![0] (m ((c.tc : Thread nD τ).loc main_arg1)) (constantI S_ 32 256#32)
    pads_S50000_S57344_073440 h_S_) shapeCasts_S57344_S14x1x4096 := by
  entry_read
  rfl

/-- The attention vectors as the region finds them. -/
theorem V_v3 : V m c main_v3 = transpose S2x256 [1, 0] (m ((c.tc : Thread nD τ).loc main_arg2)) transposes_S256x2_S2x256_1_0 := by
  entry_read
  rfl

/-- The bias as the region finds it. -/
theorem V_v4 : V m c main_v4 = shapeCast S1x256 (m ((c.tc : Thread nD τ).loc main_arg4)) shapeCasts_S256_S1x256 := by
  entry_read
  rfl

/-- The first stream's states. -/
theorem a_at (r : Fin 4096) (d : Fin 256) :
    (iblk m c 0 t (ix2 (n0 := 4096) (n1 := 256) r d) : Ideal .f32) = xP (m ((c.tc : Thread nD τ).loc main_arg0)) (t.val * 4096 + r.val) d := by
  have ht := lt_of_lt_of_eq t.isLt N_0
  have e : (iblk m c 0 t (ix2 (n0 := 4096) (n1 := 256) r d) : Ideal .f32)
      = (V m c main_v0 (ix2 (n0 := 57344) (n1 := 256) ⟨t.val * 4096 + r.val, by omega⟩ d) : EReal) := by
    blk_ext [iblk, idx t]
  rw [e, V_v0]
  exact pad_states _ _ _

/-- The second stream's states. -/
theorem b_at (r : Fin 4096) (d : Fin 256) :
    (iblk m c 1 t (ix2 (n0 := 4096) (n1 := 256) r d) : Ideal .f32) = xP (m ((c.tc : Thread nD τ).loc main_arg0)) ((t.val + 7) * 4096 + r.val) d := by
  have ht := lt_of_lt_of_eq t.isLt N_0
  have e : (iblk m c 1 t (ix2 (n0 := 4096) (n1 := 256) r d) : Ideal .f32)
      = (V m c main_v0 (ix2 (n0 := 57344) (n1 := 256) ⟨(t.val + 7) * 4096 + r.val, by omega⟩ d) : EReal) := by
    blk_ext [iblk, idx t]
  rw [e, V_v0]
  exact pad_states _ _ _

/-- The first stream's words. -/
theorem ia_at (r : Fin 4096) :
    (iblk m c 2 t (ix3 (n0 := 1) (n1 := 1) (n2 := 4096) 0 0 r) : BitVec 32) = wP (m ((c.tc : Thread nD τ).loc main_arg1)) (t.val * 4096 + r.val) := by
  have ht := lt_of_lt_of_eq t.isLt N_0
  have e : (iblk m c 2 t (ix3 (n0 := 1) (n1 := 1) (n2 := 4096) 0 0 r) : BitVec 32)
      = (V m c main_v2 (ix3 (n0 := 14) (n1 := 1) (n2 := 4096) ⟨t.val, by omega⟩ 0 r) : BitVec 32) := by
    blk_ext [iblk, idx t]
  rw [e, V_v2]
  exact pad_words _ _ _

/-- The second stream's words. -/
theorem ib_at (r : Fin 4096) :
    (iblk m c 3 t (ix3 (n0 := 1) (n1 := 1) (n2 := 4096) 0 0 r) : BitVec 32) = wP (m ((c.tc : Thread nD τ).loc main_arg1)) ((t.val + 7) * 4096 + r.val) := by
  have ht := lt_of_lt_of_eq t.isLt N_0
  have e : (iblk m c 3 t (ix3 (n0 := 1) (n1 := 1) (n2 := 4096) 0 0 r) : BitVec 32)
      = (V m c main_v2 (ix3 (n0 := 14) (n1 := 1) (n2 := 4096) ⟨t.val + 7, by omega⟩ 0 r) : BitVec 32) := by
    blk_ext [iblk, idx t]
  rw [e, V_v2]
  exact pad_words _ _ _

/-- The attention vectors, one per row. -/
theorem at_at (h : Fin 2) (d : Fin 256) :
    (iblk m c 4 t (ix2 (n0 := 2) (n1 := 256) h d) : Ideal .f32) = (m ((c.tc : Thread nD τ).loc main_arg2) (ix2 (n0 := 256) (n1 := 2) d h) : EReal) := by
  have e : (iblk m c 4 t (ix2 (n0 := 2) (n1 := 256) h d) : Ideal .f32) = (V m c main_v3 (ix2 (n0 := 2) (n1 := 256) h d) : EReal) := by
    blk_ext [iblk, idx t]
  rw [e, V_v3]
  pointwise

/-- The output map. -/
theorem w_at (o : Fin 256) (d : Fin 256) :
    (iblk m c 5 t (ix2 (n0 := 256) (n1 := 256) o d) : Ideal .f32) = (m ((c.tc : Thread nD τ).loc main_arg3) (ix2 (n0 := 256) (n1 := 256) o d) : EReal) := by
  blk_ext [iblk, V, idx t]

/-- The bias. -/
theorem bias_at (o : Fin 256) :
    (iblk m c 6 t (ix2 (n0 := 1) (n1 := 256) 0 o) : Ideal .f32) = (m ((c.tc : Thread nD τ).loc main_arg4) (ix1 (n0 := 256) o) : EReal) := by
  have e : (iblk m c 6 t (ix2 (n0 := 1) (n1 := 256) 0 o) : Ideal .f32) = (V m c main_v4 (ix2 (n0 := 1) (n1 := 256) 0 o) : EReal) := by
    blk_ext [iblk, idx t]
  rw [e, V_v4]
  pointwise

end Cert.KernelIdeal.Blocks

end
-- ==== Proof.Fold.lean ====
/-
  What the carried arrays hold after each grid point, by induction over the points: real maxima, and
  the sums, over the nodes the two streams have passed, of the exponentials less those maxima. The
  last point's result follows: the softmax-weighted sum of each segment through the output map.
-/
module

public import proofs.«01_k».proof.Proof.KStep
public import proofs.«01_k».proof.Proof.Blocks

@[expose] public section

set_option maxRecDepth 16384

noncomputable section

namespace Cert.KernelIdeal.Fold

open Idealize.ShloMosaic Idealize.ShloMosaic.TcCoe Idealize.SL.Sem
open Cert.KernelIdeal Cert.KernelIdeal.Gen Cert.KernelIdeal.Step Cert.KernelIdeal.KStep Cert.KernelIdeal.Blocks

/-- The sum over the nodes the two streams have passed after `n` points. -/
def passed (n : ℕ) (f : ℕ → ℝ) : ℝ := (∑ p ∈ Finset.range (n * 4096), f p) + ∑ p ∈ Finset.range (n * 4096), f (7 * 4096 + p)

/-- Before the first point nothing has passed. -/
theorem passed_zero (f : ℕ → ℝ) : passed 0 f = 0 := by simp [passed]

/-- One more point adds its two blocks. -/
theorem passed_succ (n : ℕ) (f : ℕ → ℝ) :
    passed (n + 1) f = passed n f + (∑ r : Fin 4096, f (n * 4096 + r.val)) + ∑ r : Fin 4096, f ((n + 7) * 4096 + r.val) := by
  have e : ∀ k : ℕ → ℝ, (∑ p ∈ Finset.range ((n + 1) * 4096), k p) = (∑ p ∈ Finset.range (n * 4096), k p) + ∑ r : Fin 4096, k (n * 4096 + r.val) := fun k => by
    rw [Nat.succ_mul, Finset.sum_range_add, Finset.sum_range (fun r => k (n * 4096 + r))]
  have h : ∀ r : ℕ, (n + 7) * 4096 + r = 7 * 4096 + (n * 4096 + r) := fun r => by ring
  simp only [passed, e, h]
  ring

/-- A factor moves under the sum. -/
theorem passed_mul (n : ℕ) (f : ℕ → ℝ) (k : ℝ) : passed n f * k = passed n fun p => f p * k := by
  simp only [passed, add_mul, Finset.sum_mul]

/-- After all the points every node is passed, and the padding adds nothing. -/
theorem passed_all (f : ℕ → ℝ) (hf : ∀ p, 50000 ≤ p → f p = 0) : passed 7 f = ∑ i : Fin 50000, f i.val := by
  rw [passed, ← Finset.sum_range_add f (7 * 4096) (7 * 4096), show 7 * 4096 + 7 * 4096 = 50000 + 7344 from rfl, Finset.sum_range_add,
    Finset.sum_eq_zero (s := Finset.range 7344) (fun p _ => hf _ (by omega)), add_zero, Finset.sum_range]

/-- The real states of node `p`, zero past the last node. -/
def xR (X : Fin 50000 → Fin 256 → ℝ) (p : ℕ) (d : Fin 256) : ℝ := if h : p < 50000 then X ⟨p, h⟩ d else 0

section Terms

variable (X : Fin 50000 → Fin 256 → ℝ) (A : Fin 2 → Fin 256 → ℝ) (ids : IVec S50000 32)

/-- Node `p`'s share of a segment's denominator. -/
def eT (μ : ℝ) (h : Fin 2) (g : Fin 256) (p : ℕ) : ℝ := if wP ids p = BitVec.ofNat 32 g.val then Real.exp (score A (xR X p) h - μ) else 0

/-- Node `p`'s share of a segment's numerator in a column. -/
def nT (μ : ℝ) (h : Fin 2) (g d : Fin 256) (p : ℕ) : ℝ := if wP ids p = BitVec.ofNat 32 g.val then xR X p d * Real.exp (score A (xR X p) h - μ) else 0

/-- Rescaling a share of the denominator. -/
theorem eT_mul (μ μ' : ℝ) (h : Fin 2) (g : Fin 256) (p : ℕ) : eT X A ids μ h g p * Real.exp (μ - μ') = eT X A ids μ' h g p := by
  rw [eT, eT, ite_mul, zero_mul, ← Real.exp_add, sub_add_sub_cancel]

/-- Rescaling a share of the numerator. -/
theorem nT_mul (μ μ' : ℝ) (h : Fin 2) (g d : Fin 256) (p : ℕ) : nT X A ids μ h g d p * Real.exp (μ - μ') = nT X A ids μ' h g d p := by
  rw [nT, nT, ite_mul, zero_mul, mul_assoc, ← Real.exp_add, sub_add_sub_cancel]

/-- The carried arrays after `n` points. -/
structure Inv (n : ℕ) (mx den : Vec Ideal S2x256 .f32) (num : Vec Ideal S256x256 .f32) (μ : Fin 2 → Fin 256 → ℝ) : Prop where
  /-- The maxima are real. -/
  mx : ∀ h g, (mx (ix2 h g) : Ideal .f32) = ((μ h g : ℝ) : EReal)
  /-- The denominators. -/
  den : ∀ h g, (den (ix2 h g) : Ideal .f32) = ((passed n (eT X A ids (μ h g) h g) : ℝ) : EReal)
  /-- The numerators. -/
  num : ∀ g d, (num (ix2 g d) : Ideal .f32)
    = ((passed n (nT X A ids (μ ⟨d.val / 128, by omega⟩ g) ⟨d.val / 128, by omega⟩ g d) : ℝ) : EReal)

/-- Before the first point: the constants it stores. -/
theorem inv_zero : Inv X A ids 0 (k0_pay3 (F := Ideal)) (k0_pay5 (F := Ideal)) (k0_pay4 (F := Ideal)) fun _ _ => -1024 where
  mx h g := by
    pointwise [k0_pay3]
    exact Words.neg_shift_f32
  den h g := by
    rw [passed_zero, EReal.coe_zero]
    pointwise [k0_pay5]
  num g d := by
    rw [passed_zero, EReal.coe_zero]
    pointwise [k0_pay4]

variable {X A ids}

/-- One point takes the arrays after `n` points to those after `n + 1`. -/
theorem inv_step {n : ℕ} {B : Blocks Ideal} (H : Holds B (fun r => xR X (n * 4096 + r.val)) (fun r => xR X ((n + 7) * 4096 + r.val)) A)
    (ha : ∀ r : Fin 4096, wa B r = wP ids (n * 4096 + r.val)) (hb : ∀ r : Fin 4096, wb B r = wP ids ((n + 7) * 4096 + r.val))
    {mx den : Vec Ideal S2x256 .f32} {num : Vec Ideal S256x256 .f32} {μ : Fin 2 → Fin 256 → ℝ} (I : Inv X A ids n mx den num μ) :
    ∃ μ', Inv X A ids (n + 1) (nMx B mx) (nDen B mx den) (nNum B mx num) μ' := by
  obtain ⟨μ', hn⟩ := nMx_real H mx μ I.mx
  refine ⟨μ', hn, fun h g => ?_, fun g d => ?_⟩
  · rw [nDen_at H I.mx hn (δ := fun h g => passed n (eT X A ids (μ h g) h g)) I.den, passed_succ, passed_mul]
    simp only [eT_mul, dsum, ha, hb]
    rfl
  · rw [nNum_at H I.mx hn I.num g d ⟨d.val / 128, by omega⟩ rfl, passed_succ, passed_mul]
    simp only [nT_mul, nsum, ha, hb]
    rfl

end Terms

section Run

variable (m : (ℓ : Loc nD τ sig) → Buf (Elt Ideal) ℓ) (c : Dev nD) {X : Fin 50000 → Fin 256 → ℝ} {A : Fin 2 → Fin 256 → ℝ}

/-- The arguments are real: the states and the attention vectors. -/
structure RealArgs (m : (ℓ : Loc nD τ sig) → Buf (Elt Ideal) ℓ) (c : Dev nD) (X : Fin 50000 → Fin 256 → ℝ) (A : Fin 2 → Fin 256 → ℝ) : Prop where
  /-- The states. -/
  st : ∀ i d, (m ((c.tc : Thread nD τ).loc main_arg0) (ix2 (n0 := 50000) (n1 := 256) i d) : Ideal .f32) = ((X i d : ℝ) : EReal)
  /-- The attention vectors. -/
  av : ∀ h d, (m ((c.tc : Thread nD τ).loc main_arg2) (ix2 (n0 := 256) (n1 := 2) d h) : Ideal .f32) = ((A h d : ℝ) : EReal)

/-- The padded states are real. -/
theorem xP_real (R : RealArgs m c X A) (p : ℕ) (d : Fin 256) : xP (m ((c.tc : Thread nD τ).loc main_arg0)) p d = ((xR X p d : ℝ) : EReal) := by
  unfold xP xR
  split
  · exact R.st _ _
  · exact EReal.coe_zero.symm

/-- A point's blocks are real. -/
theorem blks_holds (R : RealArgs m c X A) (t : Fin cfg0.N) :
    Holds (blks m c t) (fun r => xR X (t.val * 4096 + r.val)) (fun r => xR X ((t.val + 7) * 4096 + r.val)) A where
  a r d := (a_at m c t r d).trans (xP_real m c R _ _)
  b r d := (b_at m c t r d).trans (xP_real m c R _ _)
  at' h d := (at_at m c t h d).trans (R.av h d)

/-- The arrays after each point but the last. -/
theorem inv_run (R : RealArgs m c X A) : ∀ (n : ℕ) (hn : n < cfg0.N), n < 6 →
    ∃ μ, Inv X A (m ((c.tc : Thread nD τ).loc main_arg1)) (n + 1) (outsAt0 m c n hn).2.1 (outsAt0 m c n hn).2.2.2 (outsAt0 m c n hn).2.2.1 μ
  | 0, hn, _ => by
    have e := inv_step (blks_holds m c R ⟨0, hn⟩) (ia_at m c ⟨0, hn⟩) (ib_at m c ⟨0, hn⟩) (inv_zero X A (m ((c.tc : Thread nD τ).loc main_arg1)))
    rw [mx_A m c ⟨0, hn⟩ rfl (show ¬ 0 % 7 = 6 by decide), den_A m c ⟨0, hn⟩ rfl (show ¬ 0 % 7 = 6 by decide), num_A m c ⟨0, hn⟩ rfl (show ¬ 0 % 7 = 6 by decide)]
    exact e
  | n + 1, hn, h6 => by
    obtain ⟨μ, I⟩ := inv_run R n (by omega) (by omega)
    have h0 : ¬ (n + 1) % 7 = 0 := by omega
    have h1 : ¬ (n + 1) % 7 = 6 := by omega
    have e := inv_step (blks_holds m c R ⟨n + 1, hn⟩) (ia_at m c ⟨n + 1, hn⟩) (ib_at m c ⟨n + 1, hn⟩) I
    rw [mx_B m c ⟨n + 1, hn⟩ h0 h1, den_B m c ⟨n + 1, hn⟩ h0 h1, num_B m c ⟨n + 1, hn⟩ h0 h1]
    exact e

/-- A node's score. -/
def sR (X : Fin 50000 → Fin 256 → ℝ) (A : Fin 2 → Fin 256 → ℝ) (h : Fin 2) (i : Fin 50000) : ℝ := score A (X i) h

/-- The result array is what the last point writes. -/
theorem result_last (t : Fin cfg0.N) (ht : t.val = 6) :
    Value.G7 m c = k0_pay2 k0_pay26 (nDen (blks m c t) (outsAt0 m c (t.val - 1) (by omega)).2.1 (outsAt0 m c (t.val - 1) (by omega)).2.2.2)
      (nNum (blks m c t) (outsAt0 m c (t.val - 1) (by omega)).2.1 (outsAt0 m c (t.val - 1) (by omega)).2.2.1) (iblk m c 5 t) (iblk m c 6 t) := by
  rw [← out_C m c t (by omega) (by omega), Value.outsAt0_sweep, Value.G7_last]
  simp only [ht]

/-- The result: each segment's softmax-weighted sum, through the output map. -/
theorem result (R : RealArgs m c X A) (g o : Fin 256) :
    (Value.G7 m c (ix2 (n0 := 256) (n1 := 256) g o) : Ideal .f32)
      = ((∑ d : Fin 256, ((EMath.wsum (fun i : Fin 50000 => (m ((c.tc : Thread nD τ).loc main_arg1) (ix1 (n0 := 50000) i) : BitVec 32) = BitVec.ofNat 32 g.val)
            (sR X A ⟨d.val / 128, by omega⟩) (fun i => X i d) : ℝ) : EReal) * m ((c.tc : Thread nD τ).loc main_arg3) (ix2 (n0 := 256) (n1 := 256) o d))
          + m ((c.tc : Thread nD τ).loc main_arg4) (ix1 (n0 := 256) o) : EReal) := by
  obtain ⟨t, ht⟩ : ∃ t : Fin cfg0.N, t.val = 6 := ⟨⟨6, lt_of_lt_of_eq (by decide) N_0.symm⟩, rfl⟩
  obtain ⟨μ, I⟩ := inv_run m c R (t.val - 1) (by omega) (by omega)
  rw [Nat.sub_add_cancel (by omega : 1 ≤ t.val)] at I
  obtain ⟨μ', I'⟩ := inv_step (blks_holds m c R t) (ia_at m c t) (ib_at m c t) I
  have hz : ∀ p, 50000 ≤ p → ∀ g : Fin 256, ¬ wP (m ((c.tc : Thread nD τ).loc main_arg1)) p = BitVec.ofNat 32 g.val := fun p hp g h => by
    rw [wP, dif_neg (by omega)] at h
    have h' := congrArg BitVec.toNat h
    simp only [BitVec.toNat_ofNat] at h'
    omega
  have hw : ∀ i : Fin 50000, wP (m ((c.tc : Thread nD τ).loc main_arg1)) i.val = m ((c.tc : Thread nD τ).loc main_arg1) (ix1 (n0 := 50000) i) := fun i => dif_pos i.isLt
  have hx : ∀ i : Fin 50000, xR X i.val = X i := fun i => funext fun d => dif_pos i.isLt
  rw [result_last m c t ht]
  generalize (outsAt0 m c (t.val - 1) _).2.1 = mx at I' ⊢
  generalize (outsAt0 m c (t.val - 1) _).2.2.2 = den at I' ⊢
  generalize (outsAt0 m c (t.val - 1) _).2.2.1 = num at I' ⊢
  have h7 : t.val + 1 = 7 := by omega
  rw [h7] at I'
  have hE : ∀ (a : ℝ) (h : Fin 2) (g : Fin 256), passed 7 (eT X A (m ((c.tc : Thread nD τ).loc main_arg1)) a h g) = ∑ i : Fin 50000, eT X A (m ((c.tc : Thread nD τ).loc main_arg1)) a h g i.val :=
    fun a h g => passed_all _ fun p hp => if_neg (hz p hp g)
  have hN : ∀ (a : ℝ) (h : Fin 2) (g d : Fin 256), passed 7 (nT X A (m ((c.tc : Thread nD τ).loc main_arg1)) a h g d) = ∑ i : Fin 50000, nT X A (m ((c.tc : Thread nD τ).loc main_arg1)) a h g d i.val :=
    fun a h g d => passed_all _ fun p hp => if_neg (hz p hp g)
  refine (out_at I'.den (fun h g => ?_) I'.num _ _ g o).trans ?_
  · rw [hE]
    refine Finset.sum_nonneg fun i _ => ?_
    unfold eT
    split
    · exact (Real.exp_pos _).le
    · exact le_rfl
  · refine add_congr (Finset.sum_congr rfl fun d _ => ?_) (bias_at m c t o)
    refine congrArg₂ (fun p q : EReal => p * q) (congrArg _ ?_) (w_at m c t o d)
    rw [hE, hN, ← EMath.wsum_shift _ (sR X A ⟨d.val / 128, by omega⟩) (fun i => X i d) (μ' ⟨d.val / 128, by omega⟩ g)]
    simp only [eT, nT, hw, hx, sR]

end Run

end Cert.KernelIdeal.Fold

end
-- ==== Proof.ScatterRows.lean ====
/-
  Two reads of the host's row operations at an index: adding rows of updates into the rows a column
  of words names, and taking the row a word names.
-/
module

public import Idealize.ShloMosaic.Lib.Pointwise
public import Idealize.ShloMosaic.Lib.Routing.OpsPair
public import Idealize.ShloMosaic.Lib.Routing.Ops

@[expose] public section

noncomputable section

namespace Cert.Rows

open Idealize.ShloMosaic

/-- Where the element `(i, y)` of the updates lands when rows are scattered: in the row whose number the word at `i`
    holds, in the column `y`. -/
theorem lands_rows {R C n : ℕ} (d : ScatterDims ⟨2, ![R, C]⟩ ⟨2, ![n, 1]⟩ ⟨2, ![n, C]⟩) (hu : d.updateWindowDims = [1])
    (hi : d.insertedWindowDims = [0]) (hm : d.scatterDimsToOperandDims = [0]) (hv : d.indexVectorDim = 1)
    (idx : IVec ⟨2, ![n, 1]⟩ 32) (i : Fin n) (y : Fin C) (g : Fin R) (c : Fin C) :
    d.resultIdx? (ix2 i y) idx = some (ix2 g c) ↔ (idx (ix2 i (0 : Fin 1))).toInt = (g.val : ℤ) ∧ y = c := by
  obtain ⟨u, ins, sm, iv, wf⟩ := d
  subst hu hi hm hv
  rw [Routing.resultIdx?_eq_some]
  have e0 : ScatterDims.start ⟨[1], [0], [0], 1, wf⟩ (ix2 i y) idx (0 : Fin 2) = (idx (ix2 i (0 : Fin 1))).toInt := by
    unfold ScatterDims.start
    rw [dif_pos (List.mem_singleton.2 rfl)]
    refine congrArg (fun k => (idx k).toInt) (funext fun b => ?_)
    match b with
    | ⟨0, _⟩ => rfl
    | ⟨1, _⟩ => rfl
  have e1 : ScatterDims.start ⟨[1], [0], [0], 1, wf⟩ (ix2 i y) idx (1 : Fin 2) = 0 := by
    unfold ScatterDims.start
    exact dif_neg (show ¬ ((1 : Fin 2) ∈ ([0] : List (Fin 2))) by decide)
  have w0 : ScatterDims.window ⟨[1], [0], [0], 1, wf⟩ (ix2 i y) (0 : Fin 2) = 0 := rfl
  have w1 : ScatterDims.window ⟨[1], [0], [0], 1, wf⟩ (ix2 i y) (1 : Fin 2) = y.val := rfl
  constructor
  · intro h
    have h0 := h (0 : Fin 2)
    have h1 := h (1 : Fin 2)
    rw [e0, w0] at h0
    rw [e1, w1] at h1
    exact ⟨by simpa using h0, Fin.ext (by simpa using h1)⟩
  · rintro ⟨h, rfl⟩ a
    match a with
    | ⟨0, _⟩ => exact (congrArg₂ (fun p (q : ℕ) => p + (q : ℤ)) e0 w0).trans (by simpa using h)
    | ⟨1, _⟩ => exact (congrArg₂ (fun p (q : ℕ) => p + (q : ℤ)) e1 w1).trans (by simp)

/-- Adding rows into the rows that words name: each row ends with the sum of the updates whose word is its number. -/
theorem scatterAdd_rows {R C n : ℕ} (d : ScatterDims ⟨2, ![R, C]⟩ ⟨2, ![n, 1]⟩ ⟨2, ![n, C]⟩) (hu : d.updateWindowDims = [1])
    (hi : d.insertedWindowDims = [0]) (hm : d.scatterDimsToOperandDims = [0]) (hv : d.indexVectorDim = 1)
    (x : FVec Ideal ⟨2, ![R, C]⟩ .f32) (idx : IVec ⟨2, ![n, 1]⟩ 32) (upd : FVec Ideal ⟨2, ![n, C]⟩ .f32) (g : Fin R) (c : Fin C) :
    Host.scatterAdd d x idx upd (ix2 g c)
      = (x (ix2 g c) + ∑ i : Fin n, if (idx (ix2 i (0 : Fin 1))).toInt = (g.val : ℤ) then upd (ix2 i c) else 0 : EReal) := by
  show (x (ix2 g c) + ∑ j ∈ Finset.univ.filter (fun j => d.resultIdx? j idx = some (ix2 g c)), upd j : EReal) = _
  congr 1
  rw [Finset.sum_filter, sum_idx2]
  refine Finset.sum_congr rfl fun i _ => ?_
  simp only [lands_rows d hu hi hm hv]
  by_cases h : (idx (ix2 i (0 : Fin 1))).toInt = (g.val : ℤ)
  · simp only [h, true_and, if_true]
    rw [Finset.sum_ite_eq' Finset.univ c]
    simp
  · simp [h]

/-- Taking rows of a table: the row whose number the word holds. -/
theorem gather_rows {R C n : ℕ} (d : GatherDims ⟨2, ![R, C]⟩ ⟨2, ![n, 1]⟩ ⟨2, ![n, C]⟩) (ho : d.offsetDims = [1])
    (hc : d.collapsedSliceDims = [0]) (hb : d.operandBatchingDims = []) (hs : d.startIndexMap = [0]) (hv : d.indexVectorDim = 1)
    (x : FVec Ideal ⟨2, ![R, C]⟩ .f32) (idx : IVec ⟨2, ![n, 1]⟩ 32) (i : Fin n) (y : Fin C) (g : Fin R)
    (hg : idx (ix2 i (0 : Fin 1)) = BitVec.ofNat 32 g.val) (hR : R < 2 ^ 31) :
    Host.gather d x idx (ix2 i y) = x (ix2 g y) := by
  simp only [ix2_eq_valueIdx] at hg ⊢
  exact Routing.gather_row d ho hc hb hs hv x idx i y g hg hR

end Cert.Rows

end
-- ==== Proof.Ref.lean ====
/-
  What the reference computes, in named stages, and each stage's value at an index: the scores, the
  largest score of each segment, the exponentials, their sums, and the weighted sum of each segment.
-/
module

public import proofs.«01_k».proof.Proof.Gen.ReferenceIdeal.Run
public import proofs.«01_k».proof.Proof.ScatterRows
public import proofs.«01_k».proof.Proof.Words
public import Idealize.ShloMosaic.Lib.Pointwise

@[expose] public section

set_option maxRecDepth 16384

noncomputable section

namespace Cert.Ref

open Idealize.ShloMosaic Idealize.ShloMosaic.TcCoe Idealize.SL.Sem
open Cert.ReferenceIdeal Cert.ReferenceIdeal.Gen Cert.ReferenceIdeal.Facts

/-- The scores: each node's states against each head's attention vector. -/
def sc (st : FVec Ideal S50000x256 .f32) (av : FVec Ideal S256x2 .f32) : FVec Ideal S50000x2 .f32 :=
  Host.dotGeneral dot_S50000x256_S256x2_S50000x2_1_0_0_1_n_n none st av

/-- The largest score of each segment. -/
def smax (ids : IVec S50000 32) (s : FVec Ideal S50000x2 .f32) : FVec Ideal S256x2 .f32 :=
  Host.reduce FloatOps.maximumf (select (broadcastInDim S256x50000x2 ![0, 1, 2] bcast_S256x50000x1_S256x50000x2_0_1_2 (broadcastInDim S256x50000x1 ![0, 1] bcast_S256x50000_S256x50000x1_0_1 (cmpi .eq (broadcastInDim S256x50000 ![0, 1] bcast_S1x50000_S256x50000_0_1 (broadcastInDim S1x50000 ![1] bcast_S50000_S1x50000_1 ids)) (broadcastInDim S256x50000 ![0, 1] bcast_S256x1_S256x50000_0_1 (broadcastInDim S256x1 ![0] bcast_S256_S256x1_0 (iotaInDim S256 32 0)))))) (broadcastInDim S256x50000x2 ![0, 1, 2] bcast_S1x50000x2_S256x50000x2_0_1_2 (broadcastInDim S1x50000x2 ![1, 2] bcast_S50000x2_S1x50000x2_1_2 s)) (broadcastInDim S256x50000x2 ![] bcast_S_S256x50000x2 (id (constant S_ .f32 0xFF800000#32)))) (constant S_ .f32 0xFF800000#32) reducesTo_S256x50000x2_S256x2_d1 h_S_

/-- The row each node reads a table of segments at: a negative word counts from the end. -/
def gix (ids : IVec S50000 32) : IVec S50000x1 32 :=
  broadcastInDim S50000x1 ![0] bcast_S50000_S50000x1_0 (select (cmpi .slt ids (broadcastInDim S50000 ![] bcast_S_S50000 (constantI S_ 32 0#32))) (addi ids (broadcastInDim S50000 ![] bcast_S_S50000 (constantI S_ 32 256#32))) ids)

/-- The segment words as a column. -/
def col (ids : IVec S50000 32) : IVec S50000x1 32 := broadcastInDim S50000x1 ![0] bcast_S50000_S50000x1_0 ids

/-- The exponentials of the scores less their segment's maximum. -/
def ex (ids : IVec S50000 32) (s : FVec Ideal S50000x2 .f32) : FVec Ideal S50000x2 .f32 :=
  Host.exp (subf s (Host.gather gather_S256x2_S50000x1_S50000x2_1_0_n_n_0_1_12 (smax ids s) (gix ids)))

/-- The sum of each segment's exponentials. -/
def dn (ids : IVec S50000 32) (e : FVec Ideal S50000x2 .f32) : FVec Ideal S256x2 .f32 :=
  Host.scatterAdd scatter_S256x2_S50000x1_S50000x2_1_0_0_1 (broadcastInDim S256x2 ![] bcast_S_S256x2 (constant S_ .f32 0x00000000#32)) (col ids) e

/-- The weight of each node in its segment. -/
def wt (ids : IVec S50000 32) (e : FVec Ideal S50000x2 .f32) : FVec Ideal S50000x2 .f32 :=
  Host.divf e (Host.gather gather_S256x2_S50000x1_S50000x2_1_0_n_n_0_1_12 (dn ids e) (gix ids))

/-- Each node's states times its weight: the first half of the columns by the first head's. -/
def wx (st : FVec Ideal S50000x256 .f32) (w : FVec Ideal S50000x2 .f32) : FVec Ideal S50000x256 .f32 :=
  shapeCast _ (mulf (shapeCast _ st shapeCasts_S50000x256_S50000x2x128) (broadcastInDim S50000x2x128 ![0, 1, 2] bcast_S50000x2x1_S50000x2x128_0_1_2 (broadcastInDim S50000x2x1 ![0, 1] bcast_S50000x2_S50000x2x1_0_1 w))) shapeCasts_S50000x2x128_S50000x256

/-- The weighted sum of each segment. -/
def summ (ids : IVec S50000 32) (v : FVec Ideal S50000x256 .f32) : FVec Ideal S256x256 .f32 :=
  Host.scatterAdd scatter_S256x256_S50000x1_S50000x256_1_0_0_1 (broadcastInDim S256x256 ![] bcast_S_S256x256 (constant S_ .f32 0x00000000#32)) (col ids) v

/-- The output map of the segment sums. -/
def outm (u : FVec Ideal S256x256 .f32) (w : FVec Ideal S256x256 .f32) (b : FVec Ideal S256 .f32) : FVec Ideal S256x256 .f32 :=
  addf (Host.dotGeneral dot_S256x256_S256x256_S256x256_1_0_0_1_n_n none u (transpose S256x256 [1, 0] w transposes_S256x256_S256x256_1_0)) (broadcastInDim S256x256 ![0, 1] bcast_S1x256_S256x256_0_1 (broadcastInDim S1x256 ![1] bcast_S256_S1x256_1 b))

/-- The reference's result is its stages in turn. -/
theorem result_eq (m : (ℓ : Loc nD τ sig) → Buf (Elt Ideal) ℓ) (c : Dev nD) :
    Value.res_main_v43 m c
      = outm (summ (m ((c.tc : Thread nD τ).loc main_arg1))
          (wx (m ((c.tc : Thread nD τ).loc main_arg0))
            (wt (m ((c.tc : Thread nD τ).loc main_arg1))
              (ex (m ((c.tc : Thread nD τ).loc main_arg1))
                (sc (m ((c.tc : Thread nD τ).loc main_arg0)) (m ((c.tc : Thread nD τ).loc main_arg2)))))))
        (m ((c.tc : Thread nD τ).loc main_arg3)) (m ((c.tc : Thread nD τ).loc main_arg4)) := rfl

/-- A score is the sum over the columns. -/
theorem sc_at (st : FVec Ideal S50000x256 .f32) (av : FVec Ideal S256x2 .f32) (i : Fin 50000) (h : Fin 2) :
    sc st av (ix2 i h) = (∑ d : Fin 256, st (ix2 i d) * av (ix2 d h) : EReal) := by
  pointwise [sc]

/-- The maximum of a segment is the fold of its members' scores. -/
theorem smax_at (ids : IVec S50000 32) (s : FVec Ideal S50000x2 .f32) (g : Fin 256) (h : Fin 2) :
    smax ids s (ix2 g h) = Finset.univ.fold max (⊥ : EReal) fun i : Fin 50000 =>
      if ids (ix1 i) = BitVec.ofNat 32 g.val then s (ix2 i h) else ⊥ := by
  pointwise [smax]
  refine congrArg₂ (fun z f => Finset.fold max z f Finset.univ) Words.negInf_f32 (funext fun i => ?_)
  exact (Words.select_eq_word _ _ _ _).trans (congrArg (ite _ _) Words.negInf_f32)

/-- A node whose word is a segment's number reads that segment's row. -/
theorem gix_at (ids : IVec S50000 32) (i : Fin 50000) (g : Fin 256) (hg : ids (ix1 i) = BitVec.ofNat 32 g.val) :
    gix ids (ix2 i (0 : Fin 1)) = BitVec.ofNat 32 g.val := by
  have hn : ¬ (BitVec.ofNat 32 g.val).toInt < (0#32).toInt := by
    rw [Words.ofNat_toInt g.val g.isLt]
    simp
  pointwise [gix]
  rw [hg, WordCmp.cmpi_slt_eq, decide_eq_false hn]
  rfl

/-- The gathered table at a member of a segment. -/
theorem tbl_at (ids : IVec S50000 32) (x : FVec Ideal S256x2 .f32) (i : Fin 50000) (g : Fin 256)
    (hg : ids (ix1 i) = BitVec.ofNat 32 g.val) (h : Fin 2) :
    Host.gather gather_S256x2_S50000x1_S50000x2_1_0_n_n_0_1_12 x (gix ids) (ix2 i h) = x (ix2 g h) :=
  Rows.gather_rows gather_S256x2_S50000x1_S50000x2_1_0_n_n_0_1_12 rfl rfl rfl rfl rfl x (gix ids) i h g (gix_at ids i g hg) (by decide)

/-- An exponential at a member of a segment. -/
theorem ex_at (ids : IVec S50000 32) (s : FVec Ideal S50000x2 .f32) (i : Fin 50000) (g : Fin 256)
    (hg : ids (ix1 i) = BitVec.ofNat 32 g.val) (h : Fin 2) :
    ex ids s (ix2 i h) = (Ideal.exp (s (ix2 i h) - smax ids s (ix2 g h)) : EReal) := by
  have e := tbl_at ids (smax ids s) i g hg h
  unfold ex
  generalize Host.gather gather_S256x2_S50000x1_S50000x2_1_0_n_n_0_1_12 (smax ids s) (gix ids) = G at e ⊢
  rw [← e]
  rfl

/-- A weight at a member of a segment. -/
theorem wt_at (ids : IVec S50000 32) (s : FVec Ideal S50000x2 .f32) (i : Fin 50000) (g : Fin 256)
    (hg : ids (ix1 i) = BitVec.ofNat 32 g.val) (h : Fin 2) :
    wt ids s (ix2 i h) = (Ideal.div (s (ix2 i h)) (dn ids s (ix2 g h)) : EReal) := by
  have e := tbl_at ids (dn ids s) i g hg h
  unfold wt
  generalize Host.gather gather_S256x2_S50000x1_S50000x2_1_0_n_n_0_1_12 (dn ids s) (gix ids) = G at e ⊢
  rw [← e]
  rfl

/-- The column of words at a node. -/
theorem col_at (ids : IVec S50000 32) (i : Fin 50000) : col ids (ix2 i (0 : Fin 1)) = ids (ix1 i) := by
  pointwise [col]

/-- The denominators: the sum of the members' exponentials. -/
theorem dn_at (ids : IVec S50000 32) (e : FVec Ideal S50000x2 .f32) (g : Fin 256) (h : Fin 2) :
    dn ids e (ix2 g h) = (∑ i : Fin 50000, if ids (ix1 i) = BitVec.ofNat 32 g.val then e (ix2 i h) else 0 : EReal) := by
  refine (Rows.scatterAdd_rows scatter_S256x2_S50000x1_S50000x2_1_0_0_1 rfl rfl rfl rfl _ _ _ g h).trans ?_
  simp only [col_at, Words.toInt_eq_iff _ _ g.isLt]
  exact (congrArg (· + _) Ideal.ofBits_zero_f32).trans (zero_add _)

/-- The segment sums: the sum of the members' weighted states. -/
theorem summ_at (ids : IVec S50000 32) (v : FVec Ideal S50000x256 .f32) (g : Fin 256) (d : Fin 256) :
    summ ids v (ix2 g d) = (∑ i : Fin 50000, if ids (ix1 i) = BitVec.ofNat 32 g.val then v (ix2 i d) else 0 : EReal) := by
  refine (Rows.scatterAdd_rows scatter_S256x256_S50000x1_S50000x256_1_0_0_1 rfl rfl rfl rfl _ _ _ g d).trans ?_
  simp only [col_at, Words.toInt_eq_iff _ _ g.isLt]
  exact (congrArg (· + _) Ideal.ofBits_zero_f32).trans (zero_add _)

/-- The weighted states at an index. -/
theorem wx_at (st : FVec Ideal S50000x256 .f32) (w : FVec Ideal S50000x2 .f32) (i : Fin 50000) (d : Fin 256) :
    wx st w (ix2 i d) = (st (ix2 i d) * w (ix2 i (⟨d.val / 128, by omega⟩ : Fin 2)) : EReal) := by
  pointwise [wx]

/-- The output map at an index. -/
theorem outm_at (u : FVec Ideal S256x256 .f32) (w : FVec Ideal S256x256 .f32) (b : FVec Ideal S256 .f32) (g o : Fin 256) :
    outm u w b (ix2 g o) = ((∑ d : Fin 256, u (ix2 g d) * w (ix2 o d)) + b (ix1 o) : EReal) := by
  pointwise [outm]

end Cert.Ref

end
-- ==== Proof.RefValue.lean ====
/-
  The reference's value where the states and the attention vectors are real numbers: each segment's
  softmax-weighted sum of states, through the output map.
-/
module

public import proofs.«01_k».proof.Proof.Ref
public import proofs.«01_k».proof.Proof.EMath

@[expose] public section

set_option maxRecDepth 16384

noncomputable section

namespace Cert.Ref

open Idealize.ShloMosaic Idealize.ShloMosaic.TcCoe Idealize.SL.Sem
open Cert.ReferenceIdeal Cert.ReferenceIdeal.Gen

variable {st : FVec Ideal S50000x256 .f32} {av : FVec Ideal S256x2 .f32} {X : Fin 50000 → Fin 256 → ℝ} {A : Fin 2 → Fin 256 → ℝ}

/-- A score of real arguments is a real number. -/
theorem sc_real (hst : ∀ i d, st (ix2 i d) = (X i d : EReal)) (hav : ∀ h d, av (ix2 d h) = (A h d : EReal)) (i : Fin 50000) (h : Fin 2) :
    sc st av (ix2 i h) = ((∑ d, A h d * X i d : ℝ) : EReal) := by
  rw [sc_at]
  refine (Finset.sum_congr rfl fun d _ => ?_).trans (EMath.coe_sum _ _).symm
  rw [hst, hav, mul_comm, EReal.coe_mul]

/-- The maximum of a segment that has a member is a real number when the scores are. -/
theorem smax_real (ids : IVec S50000 32) {s : FVec Ideal S50000x2 .f32} {S : Fin 50000 → ℝ} (g : Fin 256) (h : Fin 2)
    (hs : ∀ i, s (ix2 i h) = (S i : EReal)) (hg : ∃ i : Fin 50000, ids (ix1 i) = BitVec.ofNat 32 g.val) :
    ∃ r : ℝ, smax ids s (ix2 g h) = (r : EReal) := by
  rw [smax_at]
  refine EMath.fold_max_real _ _ (fun i _ => ?_) ?_
  · split
    · rw [hs]
      exact EReal.coe_lt_top _
    · exact bot_lt_top
  · obtain ⟨i, hi⟩ := hg
    refine ⟨i, Finset.mem_univ i, ?_⟩
    rw [if_pos hi, hs]
    exact EReal.bot_lt_coe _

/-- The sum of a segment is its members' softmax-weighted sum. -/
theorem summ_real (ids : IVec S50000 32) (hst : ∀ i d, st (ix2 i d) = (X i d : EReal)) (hav : ∀ h d, av (ix2 d h) = (A h d : EReal))
    (g d : Fin 256) :
    summ ids (wx st (wt ids (ex ids (sc st av)))) (ix2 g d)
      = ((EMath.wsum (fun i : Fin 50000 => ids (ix1 i) = BitVec.ofNat 32 g.val)
          (fun i => ∑ e, A ⟨d.val / 128, by omega⟩ e * X i e) (fun i => X i d) : ℝ) : EReal) := by
  have hs := fun i => sc_real hst hav i (⟨d.val / 128, by omega⟩ : Fin 2)
  have hm := smax_real ids g _ hs
  have he := fun (i : Fin 50000) hi => ex_at ids (sc st av) i g hi (⟨d.val / 128, by omega⟩ : Fin 2)
  have hw := fun (i : Fin 50000) hi => wt_at ids (ex ids (sc st av)) i g hi (⟨d.val / 128, by omega⟩ : Fin 2)
  have hd := dn_at ids (ex ids (sc st av)) g (⟨d.val / 128, by omega⟩ : Fin 2)
  generalize smax ids (sc st av) (ix2 g (⟨d.val / 128, by omega⟩ : Fin 2)) = mu at hm he
  simp only [hs] at he
  rw [Finset.sum_congr rfl fun j _ => ite_congr rfl (fun hj => he j hj) fun _ => rfl] at hd
  rw [hd] at hw
  rw [summ_at, ← EMath.sum_div_eq _ _ _ mu hm]
  refine Finset.sum_congr rfl fun i _ => ite_congr rfl (fun hi => ?_) fun _ => rfl
  rw [wx_at, hst, hw i hi, he i hi]

/-- The reference's result at an index. -/
theorem value (ids : IVec S50000 32) (w : FVec Ideal S256x256 .f32) (b : FVec Ideal S256 .f32)
    (hst : ∀ i d, st (ix2 i d) = (X i d : EReal)) (hav : ∀ h d, av (ix2 d h) = (A h d : EReal)) (g o : Fin 256) :
    outm (summ ids (wx st (wt ids (ex ids (sc st av))))) w b (ix2 g o)
      = ((∑ d : Fin 256, ((EMath.wsum (fun i : Fin 50000 => ids (ix1 i) = BitVec.ofNat 32 g.val)
          (fun i => ∑ e, A ⟨d.val / 128, by omega⟩ e * X i e) (fun i => X i d) : ℝ) : EReal) * w (ix2 o d)) + b (ix1 o) : EReal) := by
  rw [outm_at]
  simp only [summ_real ids hst hav]

end Cert.Ref

end
-- ==== Proof.Finite.lean ====
/-
  The precondition read back: where it holds, every element of the states and of the attention
  vectors is a real number.
-/
module

public import proofs.«01_k».proof.Proof.Gen.Pre_finite_inputs
public import proofs.«01_k».proof.Proof.Words
public import Idealize.ShloMosaic.Lib.ReduceAll
public import Idealize.ShloMosaic.Lib.Pointwise

@[expose] public section

set_option maxRecDepth 16384

noncomputable section

namespace Cert.Finite

open Idealize.ShloMosaic Cert.Pre_finite_inputs Cert.Pre_finite_inputs.Gen

/-- A number whose magnitude is below positive infinity is real. -/
theorem real_of_abs_lt (x : EReal) (h : Ideal.cmp .olt (max x (-x)) (Ideal.ofBits .f32 0x7F800000#32) = 1#1) : x = ((x.toReal : ℝ) : EReal) := by
  rw [Words.posInf_f32] at h
  have hx := max_lt_iff.1 ((Ideal.cmp_olt_eq_one _ _).1 h)
  refine (EReal.coe_toReal hx.1.ne fun hb => ?_).symm
  rw [hb, EReal.neg_bot] at hx
  exact lt_irrefl _ hx.2

variable {st : FVec Ideal S50000x256 .f32} {ids : IVec S50000 32} {av : FVec Ideal S256x2 .f32} {w : FVec Ideal S256x256 .f32} {b : FVec Ideal S256 .f32}

/-- The scalar shape has one index. -/
theorem scalar_idx : Subsingleton S_.Idx := ⟨fun i j => funext fun k => k.elim0⟩

/-- Both conjuncts of the precondition, at its one index. -/
theorem conj (h : fn (F := Ideal) st ids av w b = fun _ => 1#1) (j : S_.Idx) :
    (∀ i, Ideal.cmp .olt (max (st i) (-st i)) (Ideal.ofBits .f32 0x7F800000#32) = 1#1)
      ∧ ∀ i, Ideal.cmp .olt (max (av i) (-av i)) (Ideal.ofBits .f32 0x7F800000#32) = 1#1 := by
  haveI := scalar_idx
  obtain ⟨h1, h2⟩ := IntOp.andi_eq_one.1 (congrFun h j)
  exact ⟨fun i => Host.reduce_andi_all _ _ _ _ j h1 i, fun i => Host.reduce_andi_all _ _ _ _ j h2 i⟩

/-- Every state is a real number. -/
theorem st_real (h : fn (F := Ideal) st ids av w b = fun _ => 1#1) (i : S50000x256.Idx) : st i = (((st i : EReal).toReal : ℝ) : EReal) :=
  real_of_abs_lt _ ((conj h fun k => k.elim0).1 i)

/-- Every element of the attention vectors is a real number. -/
theorem av_real (h : fn (F := Ideal) st ids av w b = fun _ => 1#1) (i : S256x2.Idx) : av i = (((av i : EReal).toReal : ℝ) : EReal) :=
  real_of_abs_lt _ ((conj h fun k => k.elim0).2 i)

end Cert.Finite

end
-- ==== Proof.Eq.lean ====
/-
  The equation: on memories that agree on the arguments, where the precondition holds, the
  reference's result is the kernel's.
-/
module

public import proofs.«01_k».proof.Defs
public import proofs.«01_k».proof.Proof.Fold
public import proofs.«01_k».proof.Proof.RefValue
public import proofs.«01_k».proof.Proof.Finite

@[expose] public section

set_option maxRecDepth 16384

noncomputable section

namespace Cert.Eq

open Idealize.ShloMosaic Idealize.ShloMosaic.TcCoe Idealize.SL.Sem

variable {m : (ℓ : Loc KernelIdeal.nD KernelIdeal.τ KernelIdeal.sig) → Buf (Elt Ideal) ℓ}

/-- The states, as real numbers. -/
def X (m : (ℓ : Loc KernelIdeal.nD KernelIdeal.τ KernelIdeal.sig) → Buf (Elt Ideal) ℓ) (c : Dev KernelIdeal.nD) (i : Fin 50000) (d : Fin 256) : ℝ :=
  EReal.toReal (m ((c.tc : Thread KernelIdeal.nD KernelIdeal.τ).loc KernelIdeal.main_arg0) (ix2 (n0 := 50000) (n1 := 256) i d))

/-- The attention vectors, as real numbers. -/
def A (m : (ℓ : Loc KernelIdeal.nD KernelIdeal.τ KernelIdeal.sig) → Buf (Elt Ideal) ℓ) (c : Dev KernelIdeal.nD) (h : Fin 2) (d : Fin 256) : ℝ :=
  EReal.toReal (m ((c.tc : Thread KernelIdeal.nD KernelIdeal.τ).loc KernelIdeal.main_arg2) (ix2 (n0 := 256) (n1 := 2) d h))

/-- The precondition says the states and the attention vectors are real numbers. -/
theorem realArgs (hp : Pre_KernelIdeal_finite_inputs (hPre_finite_inputs := Pre_finite_inputs.Gen.facts) m) (c : Dev KernelIdeal.nD) :
    KernelIdeal.Fold.RealArgs m c (X m c) (A m c) where
  st i d := Finite.st_real (hp c) (ix2 i d)
  av h d := Finite.av_real (hp c) (ix2 d h)

/-- The two results are equal. -/
theorem results (hp : Pre_KernelIdeal_finite_inputs (hPre_finite_inputs := Pre_finite_inputs.Gen.facts) m) (c : Dev KernelIdeal.nD) :
    Ref.outm (Ref.summ (m ((c.tc : Thread KernelIdeal.nD KernelIdeal.τ).loc KernelIdeal.main_arg1))
          (Ref.wx (m ((c.tc : Thread KernelIdeal.nD KernelIdeal.τ).loc KernelIdeal.main_arg0))
            (Ref.wt (m ((c.tc : Thread KernelIdeal.nD KernelIdeal.τ).loc KernelIdeal.main_arg1))
              (Ref.ex (m ((c.tc : Thread KernelIdeal.nD KernelIdeal.τ).loc KernelIdeal.main_arg1))
                (Ref.sc (m ((c.tc : Thread KernelIdeal.nD KernelIdeal.τ).loc KernelIdeal.main_arg0))
                  (m ((c.tc : Thread KernelIdeal.nD KernelIdeal.τ).loc KernelIdeal.main_arg2)))))))
        (m ((c.tc : Thread KernelIdeal.nD KernelIdeal.τ).loc KernelIdeal.main_arg3)) (m ((c.tc : Thread KernelIdeal.nD KernelIdeal.τ).loc KernelIdeal.main_arg4))
      = KernelIdeal.Value.G7 m c := by
  have R := realArgs hp c
  funext j
  rw [show j = ix2 (n0 := 256) (n1 := 256) (j 0) (j 1) from (ix2_eta j).symm]
  exact (Ref.value _ _ _ R.st R.av _ _).trans (KernelIdeal.Fold.result m c R _ _).symm

end Cert.Eq

end
-- ==== Proof.lean ====
/-
  The proof of the claim: the frames from the generated runs, and the algebraic claim from the two
  runs' values and the equation between them.
-/
module

public import proofs.«01_k».proof.Defs
public import proofs.«01_k».proof.Proof.Eq
public import proofs.«01_k».proof.Proof.Gen.Kernel.Frame
public import proofs.«01_k».proof.Proof.Gen.KernelIdeal.Value
public import proofs.«01_k».proof.Proof.Gen.Pre_finite_inputs
public import proofs.«01_k».proof.Proof.Gen.ReferenceIdeal.Run
public import Idealize.ShloMosaic.Adequacy
public import Idealize.ShloMosaic.Init
public import Idealize.ShloMosaic.Lib.Quiescent

@[expose] public section

noncomputable section

namespace Cert.Proof

open Idealize.ShloMosaic Idealize.SL.Sem

/-- From any memory the reference runs, leaves its arguments as they were and every semaphore at zero. -/
theorem reference_frame : quiescent_ReferenceIdeal (hReferenceIdeal := ReferenceIdeal.Gen.facts) := fun m ρ _ =>
  (θ_run ReferenceIdeal.defs _ _).mono (fun r h => ⟨fun c => (h c).2, sem_eq_zero_of_no_sems (by decide) r.2⟩)
    (ReferenceIdeal.Value.run (F := Ideal) m ρ)

/-- Where the precondition holds, the kernel and the reference end with equal results. -/
theorem algebraic : algebraic_KernelIdeal_ReferenceIdeal_pre_finite_inputs (hKernelIdeal := KernelIdeal.Gen.facts)
    (hReferenceIdeal := ReferenceIdeal.Gen.facts) (hPre_finite_inputs := Pre_finite_inputs.Gen.facts) := by
  intro m ρ m' ρ' hp hagree
  refine ⟨_, KernelIdeal.Value.run (F := Ideal) m ρ, ?_⟩
  refine (θ_run ReferenceIdeal.defs _ _).mono (fun _ h c => ⟨?_, (h c).2⟩) (ReferenceIdeal.Value.run (F := Ideal) m' ρ')
  obtain ⟨h0, h1, h2, h3, h4⟩ := hagree c
  refine ((h c).1.trans (Ref.result_eq m' c)).trans ?_
  rw [h0, h1, h2, h3, h4]
  exact Eq.results hp c

/-- Everything claimed. -/
theorem claim : Cert.Claim :=
  ⟨Kernel.Gen.facts, KernelIdeal.Gen.facts, ReferenceIdeal.Gen.facts, Pre_finite_inputs.Gen.facts,
    fun m ρ _ => Kernel.Gen.frame m ρ, fun m ρ _ => KernelIdeal.Gen.frame m ρ, fun m ρ _ => KernelIdeal.Gen.frame m ρ,
    reference_frame, fun m ρ _ => reference_frame m ρ trivial, (trivial : preserves_Kernel_KernelIdeal), algebraic⟩

end Cert.Proof

end
